-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v79)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_values) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000 : Shape := ⟨1, ![20000]⟩
abbrev S1x2048x768 : Shape := ⟨3, ![1, 2048, 768]⟩
abbrev S30x20 : Shape := ⟨2, ![30, 20]⟩
abbrev S768x1 : Shape := ⟨2, ![768, 1]⟩
abbrev S1 : Shape := ⟨1, ![1]⟩
abbrev S2324x1000 : Shape := ⟨2, ![2324, 1000]⟩
abbrev S1000 : Shape := ⟨1, ![1000]⟩
abbrev S_ : Shape := ⟨0, ![]⟩
abbrev S20x1000 : Shape := ⟨2, ![20, 1000]⟩
abbrev S2048x768 : Shape := ⟨2, ![2048, 768]⟩
abbrev S20000x1 : Shape := ⟨2, ![20000, 1]⟩
abbrev S1x1 : Shape := ⟨2, ![1, 1]⟩
abbrev S1x20000x768 : Shape := ⟨3, ![1, 20000, 768]⟩
abbrev S20000x20 : Shape := ⟨2, ![20000, 20]⟩
abbrev S1x20000x20 : Shape := ⟨3, ![1, 20000, 20]⟩
abbrev S2048x1 : Shape := ⟨2, ![2048, 1]⟩
abbrev S2048 : Shape := ⟨1, ![2048]⟩
abbrev S1x2048 : Shape := ⟨2, ![1, 2048]⟩
abbrev S20000x2048 : Shape := ⟨2, ![20000, 2048]⟩
abbrev S20000x768 : Shape := ⟨2, ![20000, 768]⟩
abbrev S1x20000x2324 : Shape := ⟨3, ![1, 20000, 2324]⟩
abbrev S1x20000x1000 : Shape := ⟨3, ![1, 20000, 1000]⟩
abbrev S1x1x1000 : Shape := ⟨3, ![1, 1, 1000]⟩
abbrev S1x20000 : Shape := ⟨2, ![1, 20000]⟩
abbrev S1x30x20 : Shape := ⟨3, ![1, 30, 20]⟩
abbrev S1x30x1000 : Shape := ⟨3, ![1, 30, 1000]⟩
abbrev S1x30 : Shape := ⟨2, ![1, 30]⟩
abbrev S480 : Shape := ⟨1, ![480]⟩
abbrev S20480 : Shape := ⟨1, ![20480]⟩
abbrev S20480x1 : Shape := ⟨2, ![20480, 1]⟩
abbrev S20x1x1024 : Shape := ⟨3, ![20, 1, 1024]⟩
abbrev S832x1 : Shape := ⟨2, ![832, 1]⟩
abbrev S1x1x1024 : Shape := ⟨3, ![1, 1, 1024]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩
abbrev S832x1024 : Shape := ⟨2, ![832, 1024]⟩
abbrev S832 : Shape := ⟨1, ![832]⟩
abbrev S819x1 : Shape := ⟨2, ![819, 1]⟩
abbrev S819 : Shape := ⟨1, ![819]⟩
abbrev S1x819x2324 : Shape := ⟨3, ![1, 819, 2324]⟩
abbrev S819x2324 : Shape := ⟨2, ![819, 2324]⟩

abbrev nBuf : Space → Nat
  | .hbm => 218
  | .vmem => 8
  | .smem => 0
  | _ => 0

abbrev hbmTy0_0 (i : Nat) : BufTy := match i % 128 with
  | 0 => ⟨S20000, .i32⟩
  | 1 => ⟨S20000, .i32⟩
  | 2 => ⟨S1x2048x768, .f32⟩
  | 3 => ⟨S30x20, .f32⟩
  | 4 => ⟨S30x20, .f32⟩
  | 5 => ⟨S768x1, .f32⟩
  | 6 => ⟨S1, .f32⟩
  | 7 => ⟨S2324x1000, .f32⟩
  | 8 => ⟨S1000, .f32⟩
  | 9 => ⟨S1000, .f32⟩
  | 10 => ⟨S_, .f32⟩
  | 11 => ⟨S20x1000, .f32⟩
  | 12 => ⟨S1000, .f32⟩
  | 13 => ⟨S1000, .f32⟩
  | 14 => ⟨S_, .f32⟩
  | 15 => ⟨S2048x768, .f32⟩
  | 16 => ⟨S_, .i32⟩
  | 17 => ⟨S20000, .i32⟩
  | 18 => ⟨S20000, .i1⟩
  | 19 => ⟨S_, .i32⟩
  | 20 => ⟨S20000, .i32⟩
  | 21 => ⟨S20000, .i32⟩
  | 22 => ⟨S20000, .i32⟩
  | 23 => ⟨S20000x1, .i32⟩
  | 24 => ⟨S1, .i32⟩
  | 25 => ⟨S_, .i32⟩
  | 26 => ⟨S20000x1, .i32⟩
  | 27 => ⟨S20000x1, .i1⟩
  | 28 => ⟨S1x1, .i32⟩
  | 29 => ⟨S20000x1, .i32⟩
  | 30 => ⟨S20000x1, .i1⟩
  | 31 => ⟨S20000x1, .i1⟩
  | 32 => ⟨S_, .i1⟩
  | 33 => ⟨S20000, .i1⟩
  | 34 => ⟨S1x20000x768, .f32⟩
  | 35 => ⟨S1x20000x768, .i1⟩
  | 36 => ⟨S_, .f32⟩
  | 37 => ⟨S1x20000x768, .f32⟩
  | 38 => ⟨S1x20000x768, .f32⟩
  | 39 => ⟨S_, .i32⟩
  | 40 => ⟨S20000, .i32⟩
  | 41 => ⟨S20000, .i1⟩
  | 42 => ⟨S_, .i32⟩
  | 43 => ⟨S20000, .i32⟩
  | 44 => ⟨S20000, .i32⟩
  | 45 => ⟨S20000, .i32⟩
  | 46 => ⟨S20000x1, .i32⟩
  | 47 => ⟨S1, .i32⟩
  | 48 => ⟨S_, .i32⟩
  | 49 => ⟨S20000x1, .i32⟩
  | 50 => ⟨S20000x1, .i1⟩
  | 51 => ⟨S1x1, .i32⟩
  | 52 => ⟨S20000x1, .i32⟩
  | 53 => ⟨S20000x1, .i1⟩
  | 54 => ⟨S20000x1, .i1⟩
  | 55 => ⟨S_, .i1⟩
  | 56 => ⟨S20000, .i1⟩
  | 57 => ⟨S1x20000x768, .f32⟩
  | 58 => ⟨S1x20000x768, .i1⟩
  | 59 => ⟨S_, .f32⟩
  | 60 => ⟨S1x20000x768, .f32⟩
  | 61 => ⟨S1x20000x768, .f32⟩
  | 62 => ⟨S20000, .i32⟩
  | 63 => ⟨S_, .i32⟩
  | 64 => ⟨S20000, .i32⟩
  | 65 => ⟨S20000, .i32⟩
  | 66 => ⟨S_, .i32⟩
  | 67 => ⟨S20000, .i32⟩
  | 68 => ⟨S20000, .i1⟩
  | 69 => ⟨S_, .i32⟩
  | 70 => ⟨S20000, .i32⟩
  | 71 => ⟨S20000, .i32⟩
  | 72 => ⟨S20000, .i32⟩
  | 73 => ⟨S20000x1, .i32⟩
  | 74 => ⟨S1, .i32⟩
  | 75 => ⟨S_, .i32⟩
  | 76 => ⟨S20000x1, .i32⟩
  | 77 => ⟨S20000x1, .i1⟩
  | 78 => ⟨S1x1, .i32⟩
  | 79 => ⟨S20000x1, .i32⟩
  | 80 => ⟨S20000x1, .i1⟩
  | 81 => ⟨S20000x1, .i1⟩
  | 82 => ⟨S_, .i1⟩
  | 83 => ⟨S20000, .i1⟩
  | 84 => ⟨S20000x20, .f32⟩
  | 85 => ⟨S20000x20, .i1⟩
  | 86 => ⟨S_, .f32⟩
  | 87 => ⟨S20000x20, .f32⟩
  | 88 => ⟨S20000x20, .f32⟩
  | 89 => ⟨S1x20000x20, .f32⟩
  | 90 => ⟨S2048x1, .f32⟩
  | 91 => ⟨S1x1, .f32⟩
  | 92 => ⟨S2048x1, .f32⟩
  | 93 => ⟨S2048x1, .f32⟩
  | 94 => ⟨S2048, .i32⟩
  | 95 => ⟨S1x2048, .i32⟩
  | 96 => ⟨S20000x1, .i32⟩
  | 97 => ⟨S20000x2048, .i32⟩
  | 98 => ⟨S20000x2048, .i32⟩
  | 99 => ⟨S20000x2048, .i1⟩
  | 100 => ⟨S20000x1, .i32⟩
  | 101 => ⟨S20000x2048, .i32⟩
  | 102 => ⟨S20000x2048, .i32⟩
  | 103 => ⟨S20000x2048, .i1⟩
  | 104 => ⟨S20000x2048, .i1⟩
  | 105 => ⟨S20000x2048, .f32⟩
  | 106 => ⟨S20000x2048, .f32⟩
  | 107 => ⟨S1x2048, .f32⟩
  | 108 => ⟨S20000x2048, .f32⟩
  | 109 => ⟨S20000x2048, .f32⟩
  | 110 => ⟨S_, .f32⟩
  | 111 => ⟨S20000, .f32⟩
  | 112 => ⟨S_, .f32⟩
  | 113 => ⟨S20000, .f32⟩
  | 114 => ⟨S20000, .f32⟩
  | 115 => ⟨S20000x1, .f32⟩
  | 116 => ⟨S20000x2048, .f32⟩
  | 117 => ⟨S20000x2048, .f32⟩
  | 118 => ⟨S20000x2048, .f32⟩
  | 119 => ⟨S_, .f32⟩
  | 120 => ⟨S20000, .f32⟩
  | 121 => ⟨S20000x1, .f32⟩
  | 122 => ⟨S20000x2048, .f32⟩
  | 123 => ⟨S20000x2048, .f32⟩
  | 124 => ⟨S20000x768, .f32⟩
  | 125 => ⟨S1x20000x768, .f32⟩
  | 126 => ⟨S1x20000x2324, .f32⟩
  | 127 => ⟨S1x20000x1000, .f32⟩
  | _ => ⟨S20000, .i32⟩

abbrev hbmTy0_1 (i : Nat) : BufTy := match i % 128 with
  | 0 => ⟨S1x1x1000, .f32⟩
  | 1 => ⟨S1x20000x1000, .f32⟩
  | 2 => ⟨S1x20000x1000, .f32⟩
  | 3 => ⟨S_, .f32⟩
  | 4 => ⟨S1x20000x1000, .f32⟩
  | 5 => ⟨S1x20000x1000, .f32⟩
  | 6 => ⟨S1x20000, .f32⟩
  | 7 => ⟨S1x20000, .f32⟩
  | 8 => ⟨S1x20000, .f32⟩
  | 9 => ⟨S1x30x20, .f32⟩
  | 10 => ⟨S1x30x1000, .f32⟩
  | 11 => ⟨S1x1x1000, .f32⟩
  | 12 => ⟨S1x30x1000, .f32⟩
  | 13 => ⟨S1x30x1000, .f32⟩
  | 14 => ⟨S_, .f32⟩
  | 15 => ⟨S1x30x1000, .f32⟩
  | 16 => ⟨S1x30x1000, .f32⟩
  | 17 => ⟨S1x30, .f32⟩
  | 18 => ⟨S1x30, .f32⟩
  | 19 => ⟨S1x30, .f32⟩
  | 20 => ⟨S_, .i32⟩
  | 21 => ⟨S20000, .i32⟩
  | 22 => ⟨S20000, .i1⟩
  | 23 => ⟨S_, .i32⟩
  | 24 => ⟨S20000, .i32⟩
  | 25 => ⟨S20000, .i32⟩
  | 26 => ⟨S20000, .i32⟩
  | 27 => ⟨S20000x1, .i32⟩
  | 28 => ⟨S1, .i32⟩
  | 29 => ⟨S_, .i32⟩
  | 30 => ⟨S20000x1, .i32⟩
  | 31 => ⟨S20000x1, .i1⟩
  | 32 => ⟨S1x1, .i32⟩
  | 33 => ⟨S20000x1, .i32⟩
  | 34 => ⟨S20000x1, .i1⟩
  | 35 => ⟨S20000x1, .i1⟩
  | 36 => ⟨S_, .i1⟩
  | 37 => ⟨S20000, .i1⟩
  | 38 => ⟨S1x20000, .f32⟩
  | 39 => ⟨S1x20000, .i1⟩
  | 40 => ⟨S_, .f32⟩
  | 41 => ⟨S1x20000, .f32⟩
  | 42 => ⟨S1x20000, .f32⟩
  | 43 => ⟨S1x20000, .f32⟩
  | 44 => ⟨S20000, .f32⟩
  | 45 => ⟨S_, .f32⟩
  | 46 => ⟨S480, .f32⟩
  | 47 => ⟨S20480, .f32⟩
  | 48 => ⟨S_, .i32⟩
  | 49 => ⟨S480, .i32⟩
  | 50 => ⟨S20480, .i32⟩
  | 51 => ⟨S20480, .f32⟩
  | 52 => ⟨S20480x1, .f32⟩
  | 53 => ⟨S20x1x1024, .f32⟩
  | 54 => ⟨S20x1x1024, .f32⟩
  | 55 => ⟨S832x1, .f32⟩
  | 56 => ⟨S832x1, .f32⟩
  | 57 => ⟨S832x1, .f32⟩
  | 58 => ⟨S819x1, .f32⟩
  | 59 => ⟨S819, .f32⟩
  | 60 => ⟨S819x1, .f32⟩
  | 61 => ⟨S819, .f32⟩
  | 62 => ⟨S819, .i32⟩
  | 63 => ⟨S_, .i32⟩
  | 64 => ⟨S819, .i32⟩
  | 65 => ⟨S819, .i32⟩
  | 66 => ⟨S_, .i32⟩
  | 67 => ⟨S819, .i32⟩
  | 68 => ⟨S819, .i1⟩
  | 69 => ⟨S_, .i32⟩
  | 70 => ⟨S819, .i32⟩
  | 71 => ⟨S819, .i32⟩
  | 72 => ⟨S819, .i32⟩
  | 73 => ⟨S819x1, .i32⟩
  | 74 => ⟨S1, .i32⟩
  | 75 => ⟨S_, .i32⟩
  | 76 => ⟨S819x1, .i32⟩
  | 77 => ⟨S819x1, .i1⟩
  | 78 => ⟨S1x1, .i32⟩
  | 79 => ⟨S819x1, .i32⟩
  | 80 => ⟨S819x1, .i1⟩
  | 81 => ⟨S819x1, .i1⟩
  | 82 => ⟨S_, .i1⟩
  | 83 => ⟨S819, .i1⟩
  | 84 => ⟨S1x819x2324, .f32⟩
  | 85 => ⟨S1x819x2324, .i1⟩
  | 86 => ⟨S_, .f32⟩
  | 87 => ⟨S1x819x2324, .f32⟩
  | 88 => ⟨S1x819x2324, .f32⟩
  | 89 => ⟨S819x2324, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | .local _ .vmem, ⟨0, _⟩ => ⟨S20480x1, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S832x1, .f32⟩
  | .local _ .vmem, ⟨6, _⟩ => ⟨S832x1, .f32⟩
  | .local _ .vmem, ⟨7, _⟩ => ⟨S832x1, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v1 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v2 : Ref sig .tc := ⟨.hbm, 61, rfl⟩
abbrev main_v3 : Ref sig .tc := ⟨.hbm, 62, rfl⟩
abbrev main_c : Ref sig .tc := ⟨.hbm, 63, rfl⟩
abbrev main_v4 : Ref sig .tc := ⟨.hbm, 64, rfl⟩
abbrev main_v5 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v6 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst : Ref sig .tc := ⟨.hbm, 110, rfl⟩
abbrev main_v28 : Ref sig .tc := ⟨.hbm, 111, rfl⟩
abbrev main_cst_0 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_cst_1 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_call3_cst : Ref sig .tc := ⟨.hbm, 131, rfl⟩
abbrev main_call3_v0 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_call4_cst : Ref sig .tc := ⟨.hbm, 142, rfl⟩
abbrev main_call4_v0 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_cst_2 : Ref sig .tc := ⟨.hbm, 173, rfl⟩
abbrev main_v62 : Ref sig .tc := ⟨.hbm, 174, rfl⟩
abbrev main_v63 : Ref sig .tc := ⟨.hbm, 175, rfl⟩
abbrev main_c_3 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70_0 : Ref sig .tc := ⟨.hbm, 183, rfl⟩
abbrev main_v70_1 : Ref sig .tc := ⟨.hbm, 184, rfl⟩
abbrev main_v70_2 : Ref sig .tc := ⟨.hbm, 185, rfl⟩
abbrev main_v71 : Ref sig .tc := ⟨.hbm, 186, rfl⟩
abbrev main_v72 : Ref sig .tc := ⟨.hbm, 187, rfl⟩
abbrev main_v73 : Ref sig .tc := ⟨.hbm, 188, rfl⟩
abbrev main_v74 : Ref sig .tc := ⟨.hbm, 189, rfl⟩
abbrev main_v75 : Ref sig .tc := ⟨.hbm, 190, rfl⟩
abbrev main_c_4 : Ref sig .tc := ⟨.hbm, 191, rfl⟩
abbrev main_v76 : Ref sig .tc := ⟨.hbm, 192, rfl⟩
abbrev main_v77 : Ref sig .tc := ⟨.hbm, 193, rfl⟩
abbrev main_call6_c : Ref sig .tc := ⟨.hbm, 194, rfl⟩
abbrev main_call6_v0 : Ref sig .tc := ⟨.hbm, 195, rfl⟩
abbrev main_call6_v1 : Ref sig .tc := ⟨.hbm, 196, rfl⟩
abbrev main_call6_c_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_c_1 : Ref sig .tc := ⟨.hbm, 202, rfl⟩
abbrev main_call6_c_2 : Ref sig .tc := ⟨.hbm, 203, rfl⟩
abbrev main_call6_v6 : Ref sig .tc := ⟨.hbm, 204, rfl⟩
abbrev main_call6_v7 : Ref sig .tc := ⟨.hbm, 205, rfl⟩
abbrev main_call6_v8 : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_c_3 : Ref sig .tc := ⟨.hbm, 210, rfl⟩
abbrev main_call6_v12 : Ref sig .tc := ⟨.hbm, 211, rfl⟩
abbrev main_call6_v13 : Ref sig .tc := ⟨.hbm, 212, rfl⟩
abbrev main_call6_v14 : Ref sig .tc := ⟨.hbm, 213, rfl⟩
abbrev main_call6_cst : Ref sig .tc := ⟨.hbm, 214, rfl⟩
abbrev main_call6_v15 : Ref sig .tc := ⟨.hbm, 215, rfl⟩
abbrev main_v78 : Ref sig .tc := ⟨.hbm, 216, rfl⟩
abbrev main_v79 : Ref sig .tc := ⟨.hbm, 217, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![20], ![false]⟩

@[reducible] def k0_t1_loop : Scf.Loop 32 :=
  let c0_i32_3 : BitVec 32 := 0#32
  let c20_i32 : BitVec 32 := 20#32
  let v10 : BitVec 32 := Scalar.addi c0_i32_3 c20_i32
  let c1_i32 : BitVec 32 := 1#32
  ⟨c0_i32_3, v10, c1_i32⟩
def k0_off1 (k0_t1 : Fin k0_t1_loop.trips) : Fin 2 → Nat :=
  let c0_i32_3 : BitVec 32 := 0#32
  let c1_i32 : BitVec 32 := 1#32
  let arg7 : BitVec 32 := Scf.iv c0_i32_3 c1_i32 k0_t1
  let c1024_i32_25 : BitVec 32 := 1024#32
  let v53 : BitVec 32 := Scalar.muli arg7 c1024_i32_25
  let v54 : Index := Scalar.indexCast v53
  let c0_26 : Index := 0#32
  ![v54.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S20480x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S832x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S832x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S832x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S20000 : Shape := ⟨1, ![20000]⟩
abbrev S1x2048x768 : Shape := ⟨3, ![1, 2048, 768]⟩
abbrev S30x20 : Shape := ⟨2, ![30, 20]⟩
abbrev S768x1 : Shape := ⟨2, ![768, 1]⟩
abbrev S1 : Shape := ⟨1, ![1]⟩
abbrev S2324x1000 : Shape := ⟨2, ![2324, 1000]⟩
abbrev S1000 : Shape := ⟨1, ![1000]⟩
abbrev S_ : Shape := ⟨0, ![]⟩
abbrev S20x1000 : Shape := ⟨2, ![20, 1000]⟩
abbrev S2048x768 : Shape := ⟨2, ![2048, 768]⟩
abbrev S20000x1 : Shape := ⟨2, ![20000, 1]⟩
abbrev S1x1 : Shape := ⟨2, ![1, 1]⟩
abbrev S1x20000x768 : Shape := ⟨3, ![1, 20000, 768]⟩
abbrev S20000x20 : Shape := ⟨2, ![20000, 20]⟩
abbrev S1x20000x20 : Shape := ⟨3, ![1, 20000, 20]⟩
abbrev S2048x1 : Shape := ⟨2, ![2048, 1]⟩
abbrev S2048 : Shape := ⟨1, ![2048]⟩
abbrev S1x2048 : Shape := ⟨2, ![1, 2048]⟩
abbrev S20000x2048 : Shape := ⟨2, ![20000, 2048]⟩
abbrev S20000x768 : Shape := ⟨2, ![20000, 768]⟩
abbrev S1x20000x2324 : Shape := ⟨3, ![1, 20000, 2324]⟩
abbrev S1x20000x1000 : Shape := ⟨3, ![1, 20000, 1000]⟩
abbrev S1x1x1000 : Shape := ⟨3, ![1, 1, 1000]⟩
abbrev S1x20000 : Shape := ⟨2, ![1, 20000]⟩
abbrev S1x30x20 : Shape := ⟨3, ![1, 30, 20]⟩
abbrev S1x30x1000 : Shape := ⟨3, ![1, 30, 1000]⟩
abbrev S1x30 : Shape := ⟨2, ![1, 30]⟩
abbrev S819 : Shape := ⟨1, ![819]⟩
abbrev S819x1 : Shape := ⟨2, ![819, 1]⟩
abbrev S1x819x2324 : Shape := ⟨3, ![1, 819, 2324]⟩
abbrev S819x2324 : Shape := ⟨2, ![819, 2324]⟩

abbrev nBuf : Space → Nat
  | .hbm => 199
  | .vmem => 0
  | .smem => 0
  | _ => 0

abbrev hbmTy0_0 (i : Nat) : BufTy := match i % 128 with
  | 0 => ⟨S20000, .i32⟩
  | 1 => ⟨S20000, .i32⟩
  | 2 => ⟨S1x2048x768, .f32⟩
  | 3 => ⟨S30x20, .f32⟩
  | 4 => ⟨S30x20, .f32⟩
  | 5 => ⟨S768x1, .f32⟩
  | 6 => ⟨S1, .f32⟩
  | 7 => ⟨S2324x1000, .f32⟩
  | 8 => ⟨S1000, .f32⟩
  | 9 => ⟨S1000, .f32⟩
  | 10 => ⟨S_, .f32⟩
  | 11 => ⟨S20x1000, .f32⟩
  | 12 => ⟨S1000, .f32⟩
  | 13 => ⟨S1000, .f32⟩
  | 14 => ⟨S_, .f32⟩
  | 15 => ⟨S2048x768, .f32⟩
  | 16 => ⟨S_, .i32⟩
  | 17 => ⟨S20000, .i32⟩
  | 18 => ⟨S20000, .i1⟩
  | 19 => ⟨S_, .i32⟩
  | 20 => ⟨S20000, .i32⟩
  | 21 => ⟨S20000, .i32⟩
  | 22 => ⟨S20000, .i32⟩
  | 23 => ⟨S20000x1, .i32⟩
  | 24 => ⟨S1, .i32⟩
  | 25 => ⟨S_, .i32⟩
  | 26 => ⟨S20000x1, .i32⟩
  | 27 => ⟨S20000x1, .i1⟩
  | 28 => ⟨S1x1, .i32⟩
  | 29 => ⟨S20000x1, .i32⟩
  | 30 => ⟨S20000x1, .i1⟩
  | 31 => ⟨S20000x1, .i1⟩
  | 32 => ⟨S_, .i1⟩
  | 33 => ⟨S20000, .i1⟩
  | 34 => ⟨S1x20000x768, .f32⟩
  | 35 => ⟨S1x20000x768, .i1⟩
  | 36 => ⟨S_, .f32⟩
  | 37 => ⟨S1x20000x768, .f32⟩
  | 38 => ⟨S1x20000x768, .f32⟩
  | 39 => ⟨S_, .i32⟩
  | 40 => ⟨S20000, .i32⟩
  | 41 => ⟨S20000, .i1⟩
  | 42 => ⟨S_, .i32⟩
  | 43 => ⟨S20000, .i32⟩
  | 44 => ⟨S20000, .i32⟩
  | 45 => ⟨S20000, .i32⟩
  | 46 => ⟨S20000x1, .i32⟩
  | 47 => ⟨S1, .i32⟩
  | 48 => ⟨S_, .i32⟩
  | 49 => ⟨S20000x1, .i32⟩
  | 50 => ⟨S20000x1, .i1⟩
  | 51 => ⟨S1x1, .i32⟩
  | 52 => ⟨S20000x1, .i32⟩
  | 53 => ⟨S20000x1, .i1⟩
  | 54 => ⟨S20000x1, .i1⟩
  | 55 => ⟨S_, .i1⟩
  | 56 => ⟨S20000, .i1⟩
  | 57 => ⟨S1x20000x768, .f32⟩
  | 58 => ⟨S1x20000x768, .i1⟩
  | 59 => ⟨S_, .f32⟩
  | 60 => ⟨S1x20000x768, .f32⟩
  | 61 => ⟨S1x20000x768, .f32⟩
  | 62 => ⟨S20000, .i32⟩
  | 63 => ⟨S_, .i32⟩
  | 64 => ⟨S20000, .i32⟩
  | 65 => ⟨S20000, .i32⟩
  | 66 => ⟨S_, .i32⟩
  | 67 => ⟨S20000, .i32⟩
  | 68 => ⟨S20000, .i1⟩
  | 69 => ⟨S_, .i32⟩
  | 70 => ⟨S20000, .i32⟩
  | 71 => ⟨S20000, .i32⟩
  | 72 => ⟨S20000, .i32⟩
  | 73 => ⟨S20000x1, .i32⟩
  | 74 => ⟨S1, .i32⟩
  | 75 => ⟨S_, .i32⟩
  | 76 => ⟨S20000x1, .i32⟩
  | 77 => ⟨S20000x1, .i1⟩
  | 78 => ⟨S1x1, .i32⟩
  | 79 => ⟨S20000x1, .i32⟩
  | 80 => ⟨S20000x1, .i1⟩
  | 81 => ⟨S20000x1, .i1⟩
  | 82 => ⟨S_, .i1⟩
  | 83 => ⟨S20000, .i1⟩
  | 84 => ⟨S20000x20, .f32⟩
  | 85 => ⟨S20000x20, .i1⟩
  | 86 => ⟨S_, .f32⟩
  | 87 => ⟨S20000x20, .f32⟩
  | 88 => ⟨S20000x20, .f32⟩
  | 89 => ⟨S1x20000x20, .f32⟩
  | 90 => ⟨S2048x1, .f32⟩
  | 91 => ⟨S1x1, .f32⟩
  | 92 => ⟨S2048x1, .f32⟩
  | 93 => ⟨S2048x1, .f32⟩
  | 94 => ⟨S2048, .i32⟩
  | 95 => ⟨S1x2048, .i32⟩
  | 96 => ⟨S20000x1, .i32⟩
  | 97 => ⟨S20000x2048, .i32⟩
  | 98 => ⟨S20000x2048, .i32⟩
  | 99 => ⟨S20000x2048, .i1⟩
  | 100 => ⟨S20000x1, .i32⟩
  | 101 => ⟨S20000x2048, .i32⟩
  | 102 => ⟨S20000x2048, .i32⟩
  | 103 => ⟨S20000x2048, .i1⟩
  | 104 => ⟨S20000x2048, .i1⟩
  | 105 => ⟨S20000x2048, .f32⟩
  | 106 => ⟨S20000x2048, .f32⟩
  | 107 => ⟨S1x2048, .f32⟩
  | 108 => ⟨S20000x2048, .f32⟩
  | 109 => ⟨S20000x2048, .f32⟩
  | 110 => ⟨S_, .f32⟩
  | 111 => ⟨S20000, .f32⟩
  | 112 => ⟨S_, .f32⟩
  | 113 => ⟨S20000, .f32⟩
  | 114 => ⟨S20000, .f32⟩
  | 115 => ⟨S20000x1, .f32⟩
  | 116 => ⟨S20000x2048, .f32⟩
  | 117 => ⟨S20000x2048, .f32⟩
  | 118 => ⟨S20000x2048, .f32⟩
  | 119 => ⟨S_, .f32⟩
  | 120 => ⟨S20000, .f32⟩
  | 121 => ⟨S20000x1, .f32⟩
  | 122 => ⟨S20000x2048, .f32⟩
  | 123 => ⟨S20000x2048, .f32⟩
  | 124 => ⟨S20000x768, .f32⟩
  | 125 => ⟨S1x20000x768, .f32⟩
  | 126 => ⟨S1x20000x2324, .f32⟩
  | 127 => ⟨S1x20000x1000, .f32⟩
  | _ => ⟨S20000, .i32⟩

abbrev hbmTy0_1 (i : Nat) : BufTy := match i % 128 with
  | 0 => ⟨S1x1x1000, .f32⟩
  | 1 => ⟨S1x20000x1000, .f32⟩
  | 2 => ⟨S1x20000x1000, .f32⟩
  | 3 => ⟨S_, .f32⟩
  | 4 => ⟨S1x20000x1000, .f32⟩
  | 5 => ⟨S1x20000x1000, .f32⟩
  | 6 => ⟨S1x20000, .f32⟩
  | 7 => ⟨S1x20000, .f32⟩
  | 8 => ⟨S1x20000, .f32⟩
  | 9 => ⟨S1x30x20, .f32⟩
  | 10 => ⟨S1x30x1000, .f32⟩
  | 11 => ⟨S1x1x1000, .f32⟩
  | 12 => ⟨S1x30x1000, .f32⟩
  | 13 => ⟨S1x30x1000, .f32⟩
  | 14 => ⟨S_, .f32⟩
  | 15 => ⟨S1x30x1000, .f32⟩
  | 16 => ⟨S1x30x1000, .f32⟩
  | 17 => ⟨S1x30, .f32⟩
  | 18 => ⟨S1x30, .f32⟩
  | 19 => ⟨S1x30, .f32⟩
  | 20 => ⟨S_, .i32⟩
  | 21 => ⟨S20000, .i32⟩
  | 22 => ⟨S20000, .i1⟩
  | 23 => ⟨S_, .i32⟩
  | 24 => ⟨S20000, .i32⟩
  | 25 => ⟨S20000, .i32⟩
  | 26 => ⟨S20000, .i32⟩
  | 27 => ⟨S20000x1, .i32⟩
  | 28 => ⟨S1, .i32⟩
  | 29 => ⟨S_, .i32⟩
  | 30 => ⟨S20000x1, .i32⟩
  | 31 => ⟨S20000x1, .i1⟩
  | 32 => ⟨S1x1, .i32⟩
  | 33 => ⟨S20000x1, .i32⟩
  | 34 => ⟨S20000x1, .i1⟩
  | 35 => ⟨S20000x1, .i1⟩
  | 36 => ⟨S_, .i1⟩
  | 37 => ⟨S20000, .i1⟩
  | 38 => ⟨S1x20000, .f32⟩
  | 39 => ⟨S1x20000, .i1⟩
  | 40 => ⟨S_, .f32⟩
  | 41 => ⟨S1x20000, .f32⟩
  | 42 => ⟨S1x20000, .f32⟩
  | 43 => ⟨S1x20000, .f32⟩
  | 44 => ⟨S20000, .f32⟩
  | 45 => ⟨S819, .f32⟩
  | 46 => ⟨S819, .i32⟩
  | 47 => ⟨S_, .i32⟩
  | 48 => ⟨S819, .i32⟩
  | 49 => ⟨S819, .i1⟩
  | 50 => ⟨S_, .i32⟩
  | 51 => ⟨S819, .i32⟩
  | 52 => ⟨S819, .i32⟩
  | 53 => ⟨S819, .i32⟩
  | 54 => ⟨S819x1, .i32⟩
  | 55 => ⟨S1, .i32⟩
  | 56 => ⟨S_, .i32⟩
  | 57 => ⟨S819x1, .i32⟩
  | 58 => ⟨S819x1, .i1⟩
  | 59 => ⟨S1x1, .i32⟩
  | 60 => ⟨S819x1, .i32⟩
  | 61 => ⟨S819x1, .i1⟩
  | 62 => ⟨S819x1, .i1⟩
  | 63 => ⟨S_, .i1⟩
  | 64 => ⟨S819, .i1⟩
  | 65 => ⟨S1x819x2324, .f32⟩
  | 66 => ⟨S1x819x2324, .i1⟩
  | 67 => ⟨S_, .f32⟩
  | 68 => ⟨S1x819x2324, .f32⟩
  | 69 => ⟨S1x819x2324, .f32⟩
  | 70 => ⟨S819x2324, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v1 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v2 : Ref sig .tc := ⟨.hbm, 61, rfl⟩
abbrev main_v3 : Ref sig .tc := ⟨.hbm, 62, rfl⟩
abbrev main_c : Ref sig .tc := ⟨.hbm, 63, rfl⟩
abbrev main_v4 : Ref sig .tc := ⟨.hbm, 64, rfl⟩
abbrev main_v5 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v6 : Ref sig .tc := ⟨.hbm, 88, rfl⟩
abbrev main_v7 : Ref sig .tc := ⟨.hbm, 89, rfl⟩
abbrev main_v8 : Ref sig .tc := ⟨.hbm, 90, rfl⟩
abbrev main_v9 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_v14 : Ref sig .tc := ⟨.hbm, 96, rfl⟩
abbrev main_v15 : Ref sig .tc := ⟨.hbm, 97, rfl⟩
abbrev main_v16 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst : Ref sig .tc := ⟨.hbm, 110, rfl⟩
abbrev main_v28 : Ref sig .tc := ⟨.hbm, 111, rfl⟩
abbrev main_cst_0 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_cst_1 : Ref sig .tc := ⟨.hbm, 119, rfl⟩
abbrev main_v35 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_call3_cst : Ref sig .tc := ⟨.hbm, 131, rfl⟩
abbrev main_call3_v0 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_call4_cst : Ref sig .tc := ⟨.hbm, 142, rfl⟩
abbrev main_call4_v0 : Ref sig .tc := ⟨.hbm, 143, rfl⟩
abbrev main_v55 : Ref sig .tc := ⟨.hbm, 144, rfl⟩
abbrev main_v56 : Ref sig .tc := ⟨.hbm, 145, rfl⟩
abbrev main_v57 : Ref sig .tc := ⟨.hbm, 146, rfl⟩
abbrev main_v58 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_values : Ref sig .tc := ⟨.hbm, 173, rfl⟩
abbrev main_indices : Ref sig .tc := ⟨.hbm, 174, rfl⟩
abbrev main_call6_c : Ref sig .tc := ⟨.hbm, 175, rfl⟩
abbrev main_call6_v0 : Ref sig .tc := ⟨.hbm, 176, rfl⟩
abbrev main_call6_v1 : Ref sig .tc := ⟨.hbm, 177, rfl⟩
abbrev main_call6_c_0 : Ref sig .tc := ⟨.hbm, 178, rfl⟩
abbrev main_call6_v2 : Ref sig .tc := ⟨.hbm, 179, rfl⟩
abbrev main_call6_v3 : Ref sig .tc := ⟨.hbm, 180, rfl⟩
abbrev main_call6_v4 : Ref sig .tc := ⟨.hbm, 181, rfl⟩
abbrev main_call6_v5 : Ref sig .tc := ⟨.hbm, 182, rfl⟩
abbrev main_call6_c_1 : Ref sig .tc := ⟨.hbm, 183, rfl⟩
abbrev main_call6_c_2 : Ref sig .tc := ⟨.hbm, 184, rfl⟩
abbrev main_call6_v6 : Ref sig .tc := ⟨.hbm, 185, rfl⟩
abbrev main_call6_v7 : Ref sig .tc := ⟨.hbm, 186, rfl⟩
abbrev main_call6_v8 : Ref sig .tc := ⟨.hbm, 187, rfl⟩
abbrev main_call6_v9 : Ref sig .tc := ⟨.hbm, 188, rfl⟩
abbrev main_call6_v10 : Ref sig .tc := ⟨.hbm, 189, rfl⟩
abbrev main_call6_v11 : Ref sig .tc := ⟨.hbm, 190, rfl⟩
abbrev main_call6_c_3 : Ref sig .tc := ⟨.hbm, 191, rfl⟩
abbrev main_call6_v12 : Ref sig .tc := ⟨.hbm, 192, rfl⟩
abbrev main_call6_v13 : Ref sig .tc := ⟨.hbm, 193, rfl⟩
abbrev main_call6_v14 : Ref sig .tc := ⟨.hbm, 194, rfl⟩
abbrev main_call6_cst : Ref sig .tc := ⟨.hbm, 195, rfl⟩
abbrev main_call6_v15 : Ref sig .tc := ⟨.hbm, 196, rfl⟩
abbrev main_v62 : Ref sig .tc := ⟨.hbm, 197, rfl⟩
abbrev main_v63 : Ref sig .tc := ⟨.hbm, 198, rfl⟩

abbrev nD : Nat := 1
abbrev τ : Topo := Topo.v7x

variable {F : FTy → Type} [FloatOps F]
-- ==== Proof.Args.lean ====
module

public import proofs.«01_k».proof.Proof.Gen.KernelIdeal.Frame
public import proofs.«01_k».proof.Proof.Gen.ReferenceIdeal.Run
public import Idealize.ShloMosaic.PureOps.Ideal
public import Idealize.ShloMosaic.Lib.StableHlo.RunRead

@[expose] public section

set_option maxRecDepth 16384

noncomputable section

namespace Cert.Proof

open Idealize.ShloMosaic Idealize.ShloMosaic.TcCoe Idealize.ShloMosaic.StableHlo

/-- A memory of the kernel's program. -/
abbrev KMem := (ℓ : Loc Cert.KernelIdeal.nD Cert.KernelIdeal.τ Cert.KernelIdeal.sig) → Buf (Elt Ideal) ℓ

/-- Contents of the reference's buffers. -/
abbrev RVal := Valuation Cert.ReferenceIdeal.τ Cert.ReferenceIdeal.sig (Elt Ideal)

/-- The reference's contents `V'` hold, at the fifteen arguments, what the kernel's memory `m` holds on core `c`. -/
structure SameArgs (m : KMem) (c : Dev Cert.KernelIdeal.nD) (V' : RVal) : Prop where
  arg0 : V' (Proc.devRef .tc Cert.ReferenceIdeal.main_arg0) = m ((c.tc : Thread Cert.KernelIdeal.nD Cert.KernelIdeal.τ).loc Cert.KernelIdeal.main_arg0)
  arg1 : V' (Proc.devRef .tc Cert.ReferenceIdeal.main_arg1) = m ((c.tc : Thread Cert.KernelIdeal.nD Cert.KernelIdeal.τ).loc Cert.KernelIdeal.main_arg1)
  arg2 : V' (Proc.devRef .tc Cert.ReferenceIdeal.main_arg2) = m ((c.tc : Thread Cert.KernelIdeal.nD Cert.KernelIdeal.τ).loc Cert.KernelIdeal.main_arg2)
  arg3 : V' (Proc.devRef .tc Cert.ReferenceIdeal.main_arg3) = m ((c.tc : Thread Cert.KernelIdeal.nD Cert.KernelIdeal.τ).loc Cert.KernelIdeal.main_arg3)
  arg4 : V' (Proc.devRef .tc Cert.ReferenceIdeal.main_arg4) = m ((c.tc : Thread Cert.KernelIdeal.nD Cert.KernelIdeal.τ).loc Cert.KernelIdeal.main_arg4)
  arg5 : V' (Proc.devRef .tc Cert.ReferenceIdeal.main_arg5) = m ((c.tc : Thread Cert.KernelIdeal.nD Cert.KernelIdeal.τ).loc Cert.KernelIdeal.main_arg5)
  arg6 : V' (Proc.devRef .tc Cert.ReferenceIdeal.main_arg6) = m ((c.tc : Thread Cert.KernelIdeal.nD Cert.KernelIdeal.τ).loc Cert.KernelIdeal.main_arg6)
  arg7 : V' (Proc.devRef .tc Cert.ReferenceIdeal.main_arg7) = m ((c.tc : Thread Cert.KernelIdeal.nD Cert.KernelIdeal.τ).loc Cert.KernelIdeal.main_arg7)
  arg8 : V' (Proc.devRef .tc Cert.ReferenceIdeal.main_arg8) = m ((c.tc : Thread Cert.KernelIdeal.nD Cert.KernelIdeal.τ).loc Cert.KernelIdeal.main_arg8)
  arg9 : V' (Proc.devRef .tc Cert.ReferenceIdeal.main_arg9) = m ((c.tc : Thread Cert.KernelIdeal.nD Cert.KernelIdeal.τ).loc Cert.KernelIdeal.main_arg9)
  arg10 : V' (Proc.devRef .tc Cert.ReferenceIdeal.main_arg10) = m ((c.tc : Thread Cert.KernelIdeal.nD Cert.KernelIdeal.τ).loc Cert.KernelIdeal.main_arg10)
  arg11 : V' (Proc.devRef .tc Cert.ReferenceIdeal.main_arg11) = m ((c.tc : Thread Cert.KernelIdeal.nD Cert.KernelIdeal.τ).loc Cert.KernelIdeal.main_arg11)
  arg12 : V' (Proc.devRef .tc Cert.ReferenceIdeal.main_arg12) = m ((c.tc : Thread Cert.KernelIdeal.nD Cert.KernelIdeal.τ).loc Cert.KernelIdeal.main_arg12)
  arg13 : V' (Proc.devRef .tc Cert.ReferenceIdeal.main_arg13) = m ((c.tc : Thread Cert.KernelIdeal.nD Cert.KernelIdeal.τ).loc Cert.KernelIdeal.main_arg13)
  arg14 : V' (Proc.devRef .tc Cert.ReferenceIdeal.main_arg14) = m ((c.tc : Thread Cert.KernelIdeal.nD Cert.KernelIdeal.τ).loc Cert.KernelIdeal.main_arg14)

/-- The four parts of a span's embedding set side by side along the last axis. -/
def spanCat (a b : FVec Ideal Cert.KernelIdeal.S1x20000x768 .f32) (w : FVec Ideal Cert.KernelIdeal.S1x20000x20 .f32)
    (h : FVec Ideal Cert.KernelIdeal.S1x20000x768 .f32) : FVec Ideal Cert.KernelIdeal.S1x20000x2324 .f32 :=
  concatenate Cert.KernelIdeal.S1x20000x2324 2
    [⟨Cert.KernelIdeal.S1x20000x768, a⟩, ⟨Cert.KernelIdeal.S1x20000x768, b⟩, ⟨Cert.KernelIdeal.S1x20000x20, w⟩,
      ⟨Cert.KernelIdeal.S1x20000x768, h⟩]
    Cert.KernelIdeal.Gen.concatenates_S1x20000x768_S1x20000x768_S1x20000x20_S1x20000x768_S1x20000x2324_d2

open Cert.KernelIdeal Cert.KernelIdeal.Gen in
/-- The kernel's operation that joins the four parts, read at its result. -/
theorem spanCat_result (W : Valuation Cert.KernelIdeal.τ Cert.KernelIdeal.sig (Elt Ideal)) :
    (StableHlo.nary (τ := Cert.KernelIdeal.τ) (Val := Elt Ideal) ![main_v1, main_v2, main_v7, main_v40] main_v41 (fun u => (concatenate S1x20000x2324 2 [⟨S1x20000x768, (u 0 : (⟨S1x20000x768, .f32⟩ : BufTy).Contents (Elt Ideal))⟩, ⟨S1x20000x768, (u 1 : (⟨S1x20000x768, .f32⟩ : BufTy).Contents (Elt Ideal))⟩, ⟨S1x20000x20, (u 2 : (⟨S1x20000x20, .f32⟩ : BufTy).Contents (Elt Ideal))⟩, ⟨S1x20000x768, (u 3 : (⟨S1x20000x768, .f32⟩ : BufTy).Contents (Elt Ideal))⟩] concatenates_S1x20000x768_S1x20000x768_S1x20000x20_S1x20000x768_S1x20000x2324_d2 : (⟨S1x20000x2324, .f32⟩ : BufTy).Contents (Elt Ideal)))).result W (no_index (Proc.devRef .tc main_v41))
      = spanCat (W (Proc.devRef .tc main_v1)) (W (Proc.devRef .tc main_v2)) (W (Proc.devRef .tc main_v7))
          (W (Proc.devRef .tc main_v40)) :=
  nary_result' ..

/-- The scores in the first 20000 places and `u` in the 480 places after them. -/
def scorePad (x : FVec Ideal Cert.KernelIdeal.S20000 .f32) (u : FVec Ideal Cert.KernelIdeal.S480 .f32) :
    FVec Ideal Cert.KernelIdeal.S20480 .f32 :=
  concatenate Cert.KernelIdeal.S20480 0 [⟨Cert.KernelIdeal.S20000, x⟩, ⟨Cert.KernelIdeal.S480, u⟩]
    Cert.KernelIdeal.Gen.concatenates_S20000_S480_S20480_d0

/-- The 480 places after the scores: minus infinity in each. -/
def lowPad : FVec Ideal Cert.KernelIdeal.S480 .f32 :=
  broadcastInDim Cert.KernelIdeal.S480 ![] Cert.KernelIdeal.Gen.bcast_S_S480 (constant Cert.KernelIdeal.S_ .f32 0xFF800000#32)

open Cert.KernelIdeal Cert.KernelIdeal.Gen in
/-- The kernel's operation that pads the scores, read at its result. -/
theorem scorePad_result (W : Valuation Cert.KernelIdeal.τ Cert.KernelIdeal.sig (Elt Ideal)) :
    (StableHlo.binary (τ := Cert.KernelIdeal.τ) (Val := Elt Ideal) main_v61 main_v62 main_v63 ((fun a b => concatenate S20480 0 [⟨S20000, a⟩, ⟨S480, b⟩] concatenates_S20000_S480_S20480_d0) : (⟨S20000, .f32⟩ : BufTy).Contents (Elt Ideal) → (⟨S480, .f32⟩ : BufTy).Contents (Elt Ideal) → (⟨S20480, .f32⟩ : BufTy).Contents (Elt Ideal))).result W (no_index (Proc.devRef .tc main_v63))
      = scorePad (W (Proc.devRef .tc main_v61)) (W (Proc.devRef .tc main_v62)) :=
  binary_result' ..

end Cert.Proof
-- ==== Proof.Rank.lean ====
module

public import Idealize.ShloMosaic.Lib.SortPrefix
public import Mathlib.Data.EReal.Basic
public import Mathlib.Data.Fintype.Card

@[expose] public section

noncomputable section

namespace Cert.Proof

open Idealize.ShloMosaic

/-! # Ranks and the stable sort

The reference sorts the scores in decreasing order, equal scores in index order, and keeps the first 819. The kernel counts,
for each score, the scores that come before it. This module proves that the count is the place in the sort. -/

variable {n : ℕ}

/-- The comparator of the reference's sort: the greater score is first. Equal scores are not ordered by it. -/
def greater (x : Fin n → EReal) (a b : Fin n) : Bool := decide (x b < x a)

/-- Score `a` comes before score `b`: it is greater, or it is equal and its index is less. -/
def beats (x : Fin n → EReal) (a b : Fin n) : Bool := decide (x b < x a) || (decide (x a = x b) && decide (a < b))

/-- Coming before is a strict total order on the positions. -/
theorem beats_strictTotal (x : Fin n → EReal) : StrictTotalBefore (beats x) := by
  classical
  refine StrictTotalBefore.of_key_then_position (fun a b : EReal => decide (b < a)) x ?_ ?_ ?_
  · intro a; simp
  · intro a b c h1 h2
    simp only [decide_eq_true_eq] at h1 h2 ⊢
    exact h2.trans h1
  · intro a b
    simp only [decide_eq_true_eq]
    rcases lt_trichotomy a b with h | h | h
    · exact Or.inr (Or.inr h)
    · exact Or.inr (Or.inl h)
    · exact Or.inl h

/-- On a list of positions in index order the stable sort by the score alone is the sort by score and then index. -/
theorem stableSort_greater (x : Fin n → EReal) (l : List (Fin n)) (hl : l.Pairwise (· < ·)) :
    stableSort (greater x) l = stableSort (beats x) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ _).mem_iff.mp hb)
    have hn : ¬ b < a := not_lt.mpr hab.le
    simp [greater, beats, hn]

/-- The stable sort by the score alone puts at each place what the sort by score and then index puts there. -/
theorem sortedFrom_greater (x : Fin n → EReal) : sortedFrom (greater x) = sortedFrom (beats x) := by
  funext k
  unfold sortedFrom
  have h : sortPositions n (greater x) = sortPositions n (beats x) :=
    stableSort_greater x _ (List.pairwise_lt_finRange n)
  rw [List.get_of_eq h]
  rfl

/-- In the sorted order the earlier place's position comes before the later one's. -/
theorem beats_sortedFrom (x : Fin n → EReal) {i j : Fin n} (hij : i < j) :
    beats x (sortedFrom (beats x) i) (sortedFrom (beats x) j) = true := by
  have hB := beats_strictTotal x
  have hno : beats x (sortedFrom (beats x) j) (sortedFrom (beats x) i) = false := by
    refine sortedFrom_noInversion (beats x) (beats x) ?_ (fun _ _ h => h) ?_ i j hij
    · intro a b h
      by_contra hc
      have h' := hB.trans a b a h (by simpa using hc)
      rw [hB.irrefl] at h'
      exact Bool.false_ne_true h'
    · intro a b c h1 h2
      by_contra hc
      have hac : beats x a c = true := by simpa using hc
      by_cases hab : a = b
      · subst hab; rw [hac] at h2; exact Bool.false_ne_true h2.symm
      · rcases hB.total a b hab with h | h
        · rw [h] at h1; exact Bool.false_ne_true h1.symm
        · have := hB.trans b a c h hac
          rw [this] at h2; exact Bool.false_ne_true h2.symm
  have hne : sortedFrom (beats x) i ≠ sortedFrom (beats x) j := fun h => hij.ne (sortedFrom_injective _ h)
  rcases hB.total _ _ hne with h | h
  · exact h
  · rw [h] at hno; exact absurd hno (by simp)

/-- The number of positions that come before position `q`. -/
def rankOf (x : Fin n → EReal) (q : Fin n) : ℕ := (Finset.univ.filter fun j => beats x j q = true).card

/-- The position at place `p` of the sort has `p` positions before it. -/
theorem rankOf_sortedFrom (x : Fin n → EReal) (p : Fin n) : rankOf x (sortedFrom (beats x) p) = p.val := by
  classical
  have hB := beats_strictTotal x
  have hset : (Finset.univ.filter fun j => beats x j (sortedFrom (beats x) p) = true)
      = (Finset.univ.filter fun i : Fin n => i < p).map ⟨sortedFrom (beats x), sortedFrom_injective _⟩ := by
    ext j
    simp only [Finset.mem_filter, Finset.mem_univ, true_and, Finset.mem_map, Function.Embedding.coeFn_mk]
    constructor
    · intro h
      obtain ⟨i, rfl⟩ := sortedFrom_surjective (beats x) j
      refine ⟨i, ?_, rfl⟩
      by_contra hi
      rcases lt_or_eq_of_le (not_lt.mp hi) with h' | h'
      · have h2 := hB.trans _ _ _ h (beats_sortedFrom x h')
        rw [hB.irrefl] at h2
        exact Bool.false_ne_true h2
      · subst h'
        rw [hB.irrefl] at h
        exact Bool.false_ne_true h
    · rintro ⟨i, hi, rfl⟩
      exact beats_sortedFrom x hi
  unfold rankOf
  rw [hset, Finset.card_map]
  have : (Finset.univ.filter fun i : Fin n => i < p) = Finset.Iio p := by ext i; simp
  rw [this, Fin.card_Iio]

/-- A position has `p` positions before it exactly when it is the one at place `p` of the sort. -/
theorem rankOf_eq_iff (x : Fin n → EReal) (q p : Fin n) : rankOf x q = p.val ↔ q = sortedFrom (greater x) p := by
  rw [sortedFrom_greater]
  constructor
  · intro h
    obtain ⟨i, rfl⟩ := sortedFrom_surjective (beats x) q
    rw [rankOf_sortedFrom] at h
    rw [Fin.ext h]
  · rintro rfl
    exact rankOf_sortedFrom x p

end Cert.Proof
-- ==== Proof.Block.lean ====
module

public import proofs.«01_k».proof.Proof.Args
public import proofs.«01_k».proof.Proof.Rank
public import Idealize.ShloMosaic.Lib.Pipeline.ValueKit
public import Idealize.ShloMosaic.Lib.WholeRead

@[expose] public section

set_option maxRecDepth 16384

noncomputable section

namespace Cert.Proof

open Idealize.ShloMosaic Idealize.ShloMosaic.TcCoe Idealize.ShloMosaic.Tactic
open Cert.KernelIdeal.Gen Cert.KernelIdeal

/-! # What one grid point computes

A grid point holds 1024 of the 20480 padded scores as columns. It counts, for each column, the padded scores that come
before it, and compares the count with the slot numbers. -/

/-- The chunk's word `a * 1024 + b` is the word of the number. -/
theorem word_mul_add (a b : ℕ) :
    IntOp.addi (Scalar.muli (BitVec.ofNat 32 a) 1024#32) (BitVec.ofNat 32 b) = BitVec.ofNat 32 (a * 1024 + b) := by
  rw [BitVec.ofNat_add, BitVec.ofNat_mul]; rfl

/-- The loop variable of trip `k` is the word of `k`. -/
theorem word_trip (k : ℕ) : Scf.iv 0#32 1#32 k = BitVec.ofNat 32 k := by
  unfold Scf.iv; simp

/-- Small words compare as signed numbers as their numbers do. -/
theorem word_slt (a b : ℕ) (ha : a < 2 ^ 31) (hb : b < 2 ^ 31) :
    IntOp.cmpi .slt (BitVec.ofNat 32 a) (BitVec.ofNat 32 b) = BitVec.ofBool (decide (a < b)) := by
  have e : ∀ n : ℕ, n < 2 ^ 31 → (BitVec.ofNat 32 n).toInt = n := fun n hn => by
    rw [BitVec.toInt_eq_toNat_of_lt]
    · rw [BitVec.toNat_ofNat, Nat.mod_eq_of_lt (by omega)]
    · rw [BitVec.toNat_ofNat, Nat.mod_eq_of_lt (by omega)]; omega
  show BitVec.ofBool (BitVec.slt _ _) = _
  rw [BitVec.slt, e a ha, e b hb]
  simp

/-- A small word converted to a float is its number. -/
theorem word_float (a : ℕ) (ha : a < 2 ^ 31) :
    FloatOps.sitofp (F := Ideal) FTy.f32 (BitVec.ofNat 32 a) = (((a : ℕ) : ℝ) : EReal) := by
  have e : (BitVec.ofNat 32 a).toInt = a := by
    rw [BitVec.toInt_eq_toNat_of_lt]
    · rw [BitVec.toNat_ofNat, Nat.mod_eq_of_lt (by omega)]
    · rw [BitVec.toNat_ofNat, Nat.mod_eq_of_lt (by omega)]; omega
  show (((BitVec.ofNat 32 a).toInt : ℝ) : EReal) = _
  rw [e]; simp

/-- A bit widened and converted to a float is one or zero. -/
theorem bit_float (b : Bool) :
    FloatOps.sitofp (F := Ideal) FTy.f32 (BitVec.setWidth 32 (BitVec.ofBool b)) = (if b = true then 1 else 0 : EReal) := by
  cases b
  · show (((BitVec.setWidth 32 (BitVec.ofBool false)).toInt : ℝ) : EReal) = _
    simp
  · show (((BitVec.setWidth 32 (BitVec.ofBool true)).toInt : ℝ) : EReal) = _
    have : (BitVec.setWidth 32 (BitVec.ofBool true)).toInt = 1 := by decide
    rw [this]; simp

/-- The `or` of two bits is the bit of the two truth values' `or`. -/
theorem ofBool_or (a b : Bool) : IntOp.ori (BitVec.ofBool a) (BitVec.ofBool b) = BitVec.ofBool (a || b) := by
  cases a <;> cases b <;> rfl

/-- The `and` of two bits is the bit of the two truth values' `and`. -/
theorem ofBool_and (a b : Bool) : IntOp.andi (BitVec.ofBool a) (BitVec.ofBool b) = BitVec.ofBool (a && b) := by
  cases a <;> cases b <;> rfl

/-- Position `s * 1024 + k` of the padded scores. -/
def spot (s : Fin 20) (k : Fin 1024) : Fin 20480 := ⟨s.val * 1024 + k.val, by have := s.isLt; have := k.isLt; omega⟩

/-- One trip adds to a column's count the number of the trip's 1024 padded scores `P` that come before the column. -/
theorem trip_count (P : Fin 20480 → EReal) (i : grid0.Coords) (u : Fin 20) (hi : (i 0).val = u.val)
    (v3 : Vec Ideal S1x1x1024 .f32) (h3 : ∀ l : Fin 1024, v3 (ix3 0 0 l) = P (spot u l))
    (k : Fin k0_t1_loop.trips) (s : Fin 20) (hk : k.val = s.val) (acc : FVec Ideal S1x1024 .f32)
    (v55 : Vec Ideal S1024x1 .f32) (h55 : ∀ r : Fin 1024, v55 (ix2 r 0) = P (spot s r)) (l : Fin 1024) :
    k0_pay9 (F := Ideal) i v3 k acc v55 (ix2 0 l)
      = (acc (ix2 0 l) : EReal) + ∑ r : Fin 1024, (if beats P (spot s r) (spot u l) = true then 1 else 0 : EReal) := by
  pointwise [k0_pay9, k0_pay6, k0_pay7]
  congr 1
  refine Fin.sum_fin_congr fun r => ?_
  have hs := s.isLt; have hu := u.isLt; have hr := r.isLt; have hl := l.isLt
  rw [h3, h55, hi, hk, word_trip, word_mul_add, word_mul_add, word_slt _ _ (by omega) (by omega), ofBool_and, ofBool_or,
    bit_float]
  rfl

/-- A slot meets a column exactly when the slot's number is the column's count and the column is not padding. -/
theorem hit_apply (i : grid0.Coords) (u : Fin 20) (hi : (i 0).val = u.val) (v11 : FVec Ideal S1x1024 .f32)
    (l : Fin 1024) (n : ℕ) (hn : v11 (ix2 0 l) = (((n : ℕ) : ℝ) : EReal)) (p : Fin 832) :
    k0_pay10 (F := Ideal) i v11 (ix2 p l) = BitVec.ofBool (decide (p.val = n) && decide ((spot u l).val < 20000)) := by
  pointwise [k0_pay10, k0_pay7]
  have hu := u.isLt; have hl := l.isLt; have hp := p.isLt
  have hc : (((p.val : ℕ) : ℝ) : EReal) = (((n : ℕ) : ℝ) : EReal) ↔ p.val = n := by
    rw [EReal.coe_eq_coe_iff, Nat.cast_inj]
  rw [hi, word_mul_add, word_float _ (by omega), hn, word_slt _ 20000 (by omega) (by omega), ofBool_and]
  simp only [hc]
  rfl

/-- What a grid point adds to the index output at a slot: the number after the position, for each column the slot meets. -/
theorem index_term (i : grid0.Coords) (u : Fin 20) (hi : (i 0).val = u.val) (v11 : FVec Ideal S1x1024 .f32)
    (n : Fin 1024 → ℕ) (hn : ∀ l, v11 (ix2 0 l) = (((n l : ℕ) : ℝ) : EReal)) (v22 : Vec Ideal S832x1 .f32) (p : Fin 832) :
    k0_pay12 (F := Ideal) i v11 v22 (ix2 p 0) = (v22 (ix2 p 0) : EReal) + ∑ l : Fin 1024,
      (if p.val = n l ∧ (spot u l).val < 20000 then ((((spot u l).val + 1 : ℕ) : ℝ) : EReal) else 0) := by
  pointwise [k0_pay12, k0_pay7]
  congr 1
  refine Fin.sum_fin_congr fun l => ?_
  have hu := u.isLt; have hl := l.isLt
  rw [hit_apply i u hi v11 l (n l) (hn l) p, hi, word_mul_add,
    show IntOp.addi (BitVec.ofNat 32 (u.val * 1024 + l.val)) 1#32 = BitVec.ofNat 32 (u.val * 1024 + l.val + 1) from
      (BitVec.ofNat_add _ _).symm, word_float _ (by omega)]
  change Scalar.select _ ((((spot u l).val + 1 : ℕ) : ℝ) : EReal) 0 = _
  by_cases h1 : p.val = n l <;> by_cases h2 : (spot u l).val < 20000 <;> simp [h1, h2, Scalar.select]

/-- What a grid point adds to the score output at a slot: the score of each column the slot meets. -/
theorem score_term (i : grid0.Coords) (u : Fin 20) (hi : (i 0).val = u.val) (v11 : FVec Ideal S1x1024 .f32)
    (n : Fin 1024 → ℕ) (hn : ∀ l, v11 (ix2 0 l) = (((n l : ℕ) : ℝ) : EReal)) (v3 : Vec Ideal S1x1x1024 .f32)
    (v35 : Vec Ideal S832x1 .f32) (p : Fin 832) :
    k0_pay1 (F := Ideal) (k0_pay6 v3) (k0_pay11 i v11) v35 (ix2 p 0) = (v35 (ix2 p 0) : EReal) + ∑ l : Fin 1024,
      (if p.val = n l ∧ (spot u l).val < 20000 then (v3 (ix3 0 0 l) : EReal) else 0) := by
  pointwise [k0_pay1, k0_pay6, k0_pay11]
  congr 1
  refine Fin.sum_fin_congr fun l => ?_
  rw [hit_apply i u hi v11 l (n l) (hn l) p, bit_float]
  by_cases h1 : p.val = n l <;> by_cases h2 : (spot u l).val < 20000 <;> simp [h1, h2]

/-- Padding by the least value: a rank among the padded scores is the rank among the scores. -/
theorem rankOf_padded {n N : ℕ} (hnN : n ≤ N) (x : Fin n → EReal) (P : Fin N → EReal)
    (hlow : ∀ j : Fin n, P (Fin.castLE hnN j) = x j) (hpad : ∀ j : Fin N, n ≤ j.val → P j = ⊥) (q : Fin n) :
    rankOf P (Fin.castLE hnN q) = rankOf x q := by
  classical
  unfold rankOf
  rw [← Finset.card_map (Fin.castLEEmb hnN)]
  congr 1
  ext j
  simp only [Finset.mem_filter, Finset.mem_univ, true_and, Finset.mem_map, Fin.castLEEmb_apply]
  have key : ∀ a b : Fin n, beats P (Fin.castLE hnN a) (Fin.castLE hnN b) = beats x a b := fun a b => by
    unfold beats; rw [hlow, hlow]; rfl
  constructor
  · intro h
    by_cases hj : j.val < n
    · exact ⟨⟨j.val, hj⟩, (key _ _).symm.trans h, rfl⟩
    · exfalso
      have hq := q.isLt
      unfold beats at h
      rw [hpad j (by omega)] at h
      simp only [Bool.or_eq_true, Bool.and_eq_true, decide_eq_true_eq, not_lt_bot, false_or] at h
      have h2 : j.val < q.val := h.2
      omega
  · rintro ⟨a, ha, rfl⟩
    exact (key a q).trans ha

/-- A count of positions is the sum of ones over the chunks of 1024. -/
theorem sum_beats (P : Fin 20480 → EReal) (q : Fin 20480) :
    ∑ s : Fin 20, ∑ r : Fin 1024, (if beats P (spot s r) q = true then 1 else 0 : EReal) = (((rankOf P q : ℕ) : ℝ) : EReal) := by
  rw [Fin.sum_mul_add_congr (L := 20480) (f := fun j => if beats P j q = true then (1 : EReal) else 0)
    (fun s k hl => rfl)]
  rw [← Finset.sum_filter, Finset.sum_const, nsmul_one]
  rfl

end Cert.Proof
-- ==== Proof.EntryPad.lean ====
module

public import proofs.«01_k».proof.Proof.Args

@[expose] public section

set_option maxRecDepth 16384

noncomputable section

namespace Cert.Proof

open Idealize.ShloMosaic Idealize.ShloMosaic.TcCoe Idealize.ShloMosaic.StableHlo

set_option maxHeartbeats 8000000 in
/-- The padded scores, when the region starts: the total scores, then minus infinity. -/
theorem entry_padded (m : KMem) (c : Dev Cert.KernelIdeal.nD) :
    Cert.KernelIdeal.Gen.V0 m c (Proc.devRef .tc Cert.KernelIdeal.main_v63)
      = scorePad (Cert.KernelIdeal.Gen.V0 m c (Proc.devRef .tc Cert.KernelIdeal.main_v61)) lowPad := by
  unfold Cert.KernelIdeal.Gen.V0
  simp (disch := decide) only [readAfter, readUpto, nullary_result', unary_result', reshape_result', scorePad_result]
  rfl

set_option maxHeartbeats 8000000 in
/-- The first operand of the launch is the padded scores as one column. -/
theorem entry_column (m : KMem) (c : Dev Cert.KernelIdeal.nD) :
    Cert.KernelIdeal.Gen.V0 m c (Proc.devRef .tc Cert.KernelIdeal.main_v67)
      = shapeCast Cert.KernelIdeal.S20480x1 (Cert.KernelIdeal.Gen.V0 m c (Proc.devRef .tc Cert.KernelIdeal.main_v63)) Cert.KernelIdeal.Gen.shapeCasts_S20480_S20480x1 := by
  unfold Cert.KernelIdeal.Gen.V0
  simp (disch := decide) only [readAfter, readUpto, reshape_result']
  rfl

set_option maxHeartbeats 8000000 in
/-- The second operand of the launch is the padded scores as twenty rows of 1024. -/
theorem entry_rows (m : KMem) (c : Dev Cert.KernelIdeal.nD) :
    Cert.KernelIdeal.Gen.V0 m c (Proc.devRef .tc Cert.KernelIdeal.main_v68)
      = shapeCast Cert.KernelIdeal.S20x1x1024 (Cert.KernelIdeal.Gen.V0 m c (Proc.devRef .tc Cert.KernelIdeal.main_v63)) Cert.KernelIdeal.Gen.shapeCasts_S20480_S20x1x1024 := by
  unfold Cert.KernelIdeal.Gen.V0
  simp (disch := decide) only [readAfter, readUpto, reshape_result']
  rfl

end Cert.Proof
-- ==== Proof.Point.lean ====
module

public import proofs.«01_k».proof.Proof.Block
public import proofs.«01_k».proof.Proof.EntryPad

@[expose] public section

set_option maxRecDepth 16384

noncomputable section

namespace Cert.Proof

open Idealize.ShloMosaic Idealize.ShloMosaic.TcCoe Idealize.ShloMosaic.Tactic
open Cert.KernelIdeal.Gen Cert.KernelIdeal

/-! # The two outputs of one grid point -/

/-- The first operand's block is the whole column at each point. -/
theorem idx0 : ∀ t : Fin cfg0.N, win0_0.index t = ![0, 0] := (by decide +kernel : ∀ t : Fin grid0.N, _)
/-- The second operand's block at point `t` is row `t`. -/
theorem idx1 : ∀ t : Fin cfg0.N, win0_1.index t = ![t.val, 0, 0] := (by decide +kernel : ∀ t : Fin grid0.N, _)
/-- The grid coordinate of point `t` is `t`. -/
theorem coord : ∀ t : Fin cfg0.N, (grid0.coords t 0).val = t.val := (by decide +kernel : ∀ t : Fin grid0.N, _)

variable (m : KMem)

/-- The padded scores the region reads, as a function of the position. -/
def padded (c : Dev nD) (j : Fin 20480) : EReal := V0 m c (Proc.devRef .tc main_v63) (ix1 j)

/-- The column operand holds the padded scores. -/
theorem column_apply (c : Dev nD) (j : Fin 20480) :
    (V m c main_v67 (ix2 j 0) : EReal) = padded m c j := by
  show (V0 m c (Proc.devRef .tc main_v67) (ix2 j 0) : EReal) = _
  rw [entry_column]; unfold padded
  pointwise []

/-- The row operand holds the padded scores, 1024 to a row. -/
theorem rows_apply (c : Dev nD) (s : Fin 20) (l : Fin 1024) :
    (V m c main_v68 (ix3 s 0 l) : EReal) = padded m c (spot s l) := by
  show (V0 m c (Proc.devRef .tc main_v68) (ix3 s 0 l) : EReal) = _
  rw [entry_rows]; unfold padded
  pointwise []
  rfl

/-- The row block of point `t` holds the chunk's padded scores. -/
theorem blk1 (c : Dev nD) (t : Fin cfg0.N) (u : Fin 20) (hu : t.val = u.val) (l : Fin 1024) :
    (iblk m c 1 t (ix3 0 0 l) : EReal) = padded m c (spot u l) := by
  rw [← rows_apply]
  blk_ext [iblk, V, idx1 t]

/-- The column block holds the padded scores. -/
theorem blk0 (c : Dev nD) (t : Fin cfg0.N) (j : Fin 20480) :
    (iblk m c 0 t (ix2 j 0) : EReal) = padded m c j := by
  rw [← column_apply]
  blk_ext [iblk, V, idx0 t]

/-- The padded scores: the total scores first. -/
theorem padded_low (c : Dev nD) (q : Fin 20000) :
    padded m c (Fin.castLE (by decide) q) = (V0 m c (Proc.devRef .tc main_v61) (ix1 q) : EReal) := by
  unfold padded
  rw [entry_padded]
  pointwise [scorePad]
  exact dif_pos q.isLt

/-- The padded scores: minus infinity after position 20000. -/
theorem padded_high (c : Dev nD) (j : Fin 20480) (hj : 20000 ≤ j.val) : padded m c j = ⊥ := by
  unfold padded
  rw [entry_padded]
  pointwise [scorePad, lowPad]
  rw [dif_neg (by omega)]
  simp [Ideal.ofBits, Ideal.ieee]

/-- One trip of the counting loop, as its printed payload over the trip's 1024 rows. -/
theorem trip_value (𝒱 : Variants) (c : Dev nD) (bd : Option 𝒱.V) (i : grid0.Coords) (arg1 : Memref sig .tc .vmem S20480x1 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S832x1 .f32) (harg4 : arg4.IsWhole) (arg5 : Memref sig .tc .vmem S832x1 .f32) (harg5 : arg5.IsWhole) (arg6 : Memref sig .tc .vmem S832x1 .f32) (harg6 : arg6.IsWhole) (v3 : Vec Ideal S1x1x1024 .f32) (X : BufTy.Contents (Elt Ideal) arg1.view.ty) (k : Fin k0_t1_loop.trips) (acc : FVec Ideal S1x1024 .f32) :
    tripR_k0_t1 (F := Ideal) 𝒱 c bd i arg1 harg1 arg2 harg2 arg3 harg3 arg4 harg4 arg5 harg5 arg6 harg6 v3 X k acc
      = k0_pay9 i v3 k acc (View.readAt (Elt Ideal) arg1.view (Rect.unit (s := S20480x1) (k0_off1 k) S1024x1.size (k0_off1_inb k)).toLoadRect X) := by
  unfold tripR_k0_t1 trip_k0_t1
  rfl

/-- The count of a column after `n` trips: the padded scores before it among the first `n` chunks. -/
theorem loop_count (P : Fin 20480 → EReal) (𝒱 : Variants) (c : Dev nD) (bd : Option 𝒱.V) (i : grid0.Coords) (u : Fin 20) (hi : (i 0).val = u.val) (arg1 : Memref sig .tc .vmem S20480x1 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S832x1 .f32) (harg4 : arg4.IsWhole) (arg5 : Memref sig .tc .vmem S832x1 .f32) (harg5 : arg5.IsWhole) (arg6 : Memref sig .tc .vmem S832x1 .f32) (harg6 : arg6.IsWhole) (v3 : Vec Ideal S1x1x1024 .f32)
    (h3 : ∀ l : Fin 1024, v3 (ix3 0 0 l) = P (spot u l)) (x : S20480x1.Idx → EReal) (hx : ∀ j : Fin 20480, x (ix2 j 0) = P j)
    (l : Fin 1024) (n : ℕ) (hn : n ≤ 20) :
    (st_k0_t1 (F := Ideal) 𝒱 c bd i arg1 harg1 arg2 harg2 arg3 harg3 arg4 harg4 arg5 harg5 arg6 harg6 v3 (harg1.unread (Val := Elt Ideal) x) (k0_pay8 (F := Ideal)) n (ix2 0 l) : EReal)
      = ∑ s : Fin n, ∑ r : Fin 1024, (if beats P (spot ⟨s.val, by omega⟩ r) (spot u l) = true then 1 else 0 : EReal) := by
  induction n with
  | zero =>
    rw [st_k0_t1_zero]
    show k0_pay8 (F := Ideal) (ix2 0 l) = (0 : EReal)
    pointwise [k0_pay8]
  | succ n ih =>
    obtain ⟨k, hk⟩ : ∃ k : Fin k0_t1_loop.trips, k.val = n := ⟨⟨n, show n < 20 by omega⟩, rfl⟩
    subst hk
    rw [st_k0_t1_succ, trip_value]
    refine (trip_count P i u hi v3 h3 k ⟨k.val, by omega⟩ rfl _ _ (fun r => ?_) l).trans ?_
    · rw [harg1.readAt_unread]
      refine Eq.trans (congrArg x ?_) (hx _)
      funext a
      apply Fin.ext
      have e := congrFun (k0_off1_eq k) a
      refine (congrArg (· + 1 * ((ix2 r 0 : S1024x1.Idx) a).val) e).trans ?_
      fin_cases a
      · show 1024 * k.val + 1 * r.val = k.val * 1024 + r.val
        omega
      · rfl
    · refine Eq.trans ?_ (Fin.sum_univ_castSucc (n := k.val) (fun s : Fin (k.val + 1) =>
        ∑ r : Fin 1024, (if beats P (spot ⟨s.val, by omega⟩ r) (spot u l) = true then 1 else 0 : EReal))).symm
      exact congrArg (· + ∑ r : Fin 1024, (if beats P (spot ⟨k.val, by omega⟩ r) (spot u l) = true then 1 else 0 : EReal)) (ih (by omega))

/-- After the loop a column's count is its rank among the padded scores. -/
theorem loop_rank (c : Dev nD) (t : Fin cfg0.N) (u : Fin 20) (hu : t.val = u.val) (l : Fin 1024) :
    (st_k0_t1 (F := Ideal) Variants.none c none (grid0.coords t) (ms0_0 t) (hs0_0 t) (ms0_1 t) (hs0_1 t) (ms0_2 t) (hs0_2 t) (ms0_3 t) (hs0_3 t) (ms0_4 t) (hs0_4 t)
        (ms0_5 t) (hs0_5 t) (iblk m c 1 t) ((hs0_0 t).unread (iblk m c 0 t)) k0_pay8 (Scf.trips (0#32) (Scalar.addi 0#32 20#32) 1#32) (ix2 0 l) : EReal)
      = (((rankOf (padded m c) (spot u l) : ℕ) : ℝ) : EReal) := by
  have e : Scf.trips (0#32) (Scalar.addi 0#32 20#32) 1#32 = 20 := by decide
  rw [e, ← sum_beats]
  exact loop_count (padded m c) Variants.none c none (grid0.coords t) u ((coord t).trans hu) _ _ _ _ _ _ _ _ _ _ _ _
    (iblk m c 1 t) (fun l => blk1 m c t u hu l) (iblk m c 0 t) (fun j => blk0 m c t j) l 20 (le_refl _)

/-- What point `t` adds to the index output at slot `p`. -/
def indexTerm (c : Dev nD) (t : Fin cfg0.N) (p : Fin 832) : EReal :=
  ∑ l : Fin 1024, (if p.val = rankOf (padded m c) (spot (t.cast N_0) l) ∧ (spot (t.cast N_0) l).val < 20000
    then ((((spot (t.cast N_0) l).val + 1 : ℕ) : ℝ) : EReal) else 0)

/-- What point `t` adds to the score output at slot `p`. -/
def scoreTerm (c : Dev nD) (t : Fin cfg0.N) (p : Fin 832) : EReal :=
  ∑ l : Fin 1024, (if p.val = rankOf (padded m c) (spot (t.cast N_0) l) ∧ (spot (t.cast N_0) l).val < 20000
    then padded m c (spot (t.cast N_0) l) else 0)

/-- After the first grid point, slot `p` of the index output holds what that point adds to zero. -/
theorem index_reset (c : Dev nD) (t : Fin cfg0.N) (h : t.val % 20 = 0) (p : Fin 832) :
    ((outsAt0 m c t.val t.isLt).1 (ix2 p 0) : EReal) = 0 + indexTerm m c t p := by
  rw [outsAt0_A m c t h]; frame_out
  rw [index_term (grid0.coords t) (t.cast N_0) (coord t) _ _ (fun l => loop_rank m c t (t.cast N_0) rfl l)]
  congr 1
  pointwise [k0_pay3]

/-- After a later grid point, slot `p` of the index output holds what it held plus what that point adds. -/
theorem index_step (c : Dev nD) (t : Fin cfg0.N) (h : ¬ t.val % 20 = 0) (p : Fin 832) :
    ((outsAt0 m c t.val t.isLt).1 (ix2 p 0) : EReal)
      = (outsAt0 m c (t.val - 1) (Nat.lt_of_le_of_lt (Nat.sub_le _ _) t.isLt)).1 (ix2 p 0) + indexTerm m c t p := by
  rw [outsAt0_B m c t h]; frame_out
  rw [index_term (grid0.coords t) (t.cast N_0) (coord t) _ _ (fun l => loop_rank m c t (t.cast N_0) rfl l)]
  rfl

/-- After the first grid point, slot `p` of the score output holds what that point adds to zero. -/
theorem score_reset (c : Dev nD) (t : Fin cfg0.N) (h : t.val % 20 = 0) (p : Fin 832) :
    ((outsAt0 m c t.val t.isLt).2.1 (ix2 p 0) : EReal) = 0 + scoreTerm m c t p := by
  rw [outsAt0_A m c t h]; frame_out
  rw [score_term (grid0.coords t) (t.cast N_0) (coord t) _ _ (fun l => loop_rank m c t (t.cast N_0) rfl l)]
  simp only [blk1 m c t (t.cast N_0) rfl]
  refine congrArg (· + scoreTerm m c t p) ?_
  show (k0_pay4 (F := Ideal) (ix2 p 0) : EReal) = 0
  pointwise [k0_pay4]

/-- After a later grid point, slot `p` of the score output holds what it held plus what that point adds. -/
theorem score_step (c : Dev nD) (t : Fin cfg0.N) (h : ¬ t.val % 20 = 0) (p : Fin 832) :
    ((outsAt0 m c t.val t.isLt).2.1 (ix2 p 0) : EReal)
      = (outsAt0 m c (t.val - 1) (Nat.lt_of_le_of_lt (Nat.sub_le _ _) t.isLt)).2.1 (ix2 p 0) + scoreTerm m c t p := by
  rw [outsAt0_B m c t h]; frame_out
  rw [score_term (grid0.coords t) (t.cast N_0) (coord t) _ _ (fun l => loop_rank m c t (t.cast N_0) rfl l)]
  simp only [blk1 m c t (t.cast N_0) rfl]
  rfl

end Cert.Proof
-- ==== Proof.TopK.lean ====
module

public import proofs.«01_k».proof.Proof.Args
public import proofs.«01_k».proof.Proof.Rank
public import Idealize.ShloMosaic.Lib.Pipeline.ValueKit

@[expose] public section

set_option maxRecDepth 16384

noncomputable section

namespace Cert.Proof

open Idealize.ShloMosaic Idealize.ShloMosaic.TcCoe
open Cert.ReferenceIdeal Cert.ReferenceIdeal.Gen

/-! # What the reference's top-k computes -/

/-- There are no more results than scores. -/
theorem le_scores : 819 ≤ 20000 := by decide

/-- The position of the score in place `p` of the decreasing order of the scores `x`. -/
def place (x : Fin 20000 → EReal) (p : Fin 819) : Fin 20000 := sortedFrom (greater x) (Fin.castLE le_scores p)

/-- Over one axis, setting the coordinate gives the index of that coordinate. -/
theorem along_one (j : S20000.Idx) (hd : 0 < S20000.rank) (k : Fin 20000) : j.along (⟨0, hd⟩ : Fin S20000.rank) k = ix1 k := by
  funext a
  fin_cases a
  rfl

/-- The reference's comparator on the scores is `greater`. -/
theorem before_eq (x : FVec Ideal S20000 .f32) (j : S20000.Idx) (hd : 0 < S20000.rank) :
    (fun k k' : Fin 20000 => FloatOps.cmpfTotal (F := Ideal) (φ := .f32) .gt (x (j.along (⟨0, hd⟩ : Fin S20000.rank) k)) (x (j.along (⟨0, hd⟩ : Fin S20000.rank) k')) == 1#1)
      = greater (fun q : Fin 20000 => (x (ix1 q) : EReal)) := by
  funext k k'
  rw [along_one, along_one]
  show (BitVec.ofBool (decide ((x (ix1 k') : EReal) < x (ix1 k))) == 1#1) = decide ((x (ix1 k') : EReal) < x (ix1 k))
  by_cases h : (x (ix1 k') : EReal) < x (ix1 k) <;> simp [h]

/-- The reference's sort permutes its operands by the places of `greater`. -/
theorem sort2_apply {β : Type} (x : FVec Ideal S20000 .f32) (y : S20000.Idx → β) (q : Fin 20000) :
    (Host.sort2 S20000 0 (fun l r : Ideal .f32 × β => FloatOps.cmpfTotal (F := Ideal) (φ := .f32) .gt l.1 r.1) x y).1 (ix1 q)
        = x (ix1 (sortedFrom (greater (fun q : Fin 20000 => (x (ix1 q) : EReal))) q))
      ∧ (Host.sort2 S20000 0 (fun l r : Ideal .f32 × β => FloatOps.cmpfTotal (F := Ideal) (φ := .f32) .gt l.1 r.1) x y).2 (ix1 q)
        = y (ix1 (sortedFrom (greater (fun q : Fin 20000 => (x (ix1 q) : EReal))) q)) := by
  have hd : 0 < S20000.rank := by decide
  unfold Host.sort2
  rw [dif_pos hd]
  have e := congrFun (congrArg (fun f => sortedFrom (n := 20000) f) (before_eq x (ix1 q) hd)) q
  exact ⟨(congrArg (fun k : Fin 20000 => x ((ix1 q : S20000.Idx).along ⟨0, hd⟩ k)) e).trans (congrArg x (along_one _ hd _)),
    (congrArg (fun k : Fin 20000 => y ((ix1 q : S20000.Idx).along ⟨0, hd⟩ k)) e).trans (congrArg y (along_one _ hd _))⟩

/-- A slice at offset zero reads the same position. -/
theorem slice_low {α : Type} (v : S20000.Idx → α) (p : Fin 819) :
    extractStridedSlice S819 (fun _ => 0) v sliceFits_S20000_S819 (ix1 p) = v (ix1 (Fin.castLE le_scores p)) := by
  unfold extractStridedSlice
  refine congrArg v (funext fun a => Fin.ext ?_)
  fin_cases a
  exact Nat.zero_add _

/-- The values of the reference's top-k: in place `p`, the score of that place. -/
theorem topK_value (x : FVec Ideal S20000 .f32) (p : Fin 819) :
    (Host.topK S819 0 (FloatOps.cmpfTotal (F := Ideal) (φ := .f32) .gt) x sliceFits_S20000_S819).1 (ix1 p)
      = x (ix1 (place (fun q => (x (ix1 q) : EReal)) p)) := by
  unfold Host.topK
  dsimp only
  exact (slice_low _ p).trans (sort2_apply x _ _).1

/-- The indices of the reference's top-k: in place `p`, the word of the position of that place. -/
theorem topK_index (x : FVec Ideal S20000 .f32) (p : Fin 819) :
    (Host.topK S819 0 (FloatOps.cmpfTotal (F := Ideal) (φ := .f32) .gt) x sliceFits_S20000_S819).2 (ix1 p)
      = BitVec.ofNat 32 (place (fun q => (x (ix1 q) : EReal)) p).val := by
  unfold Host.topK
  dsimp only
  refine ((slice_low _ p).trans (sort2_apply x _ _).2).trans ?_
  rw [dif_pos (show 0 < S20000.rank by decide)]
  rfl

end Cert.Proof
-- ==== Proof.Array.lean ====
module

public import proofs.«01_k».proof.Proof.Point
public import proofs.«01_k».proof.Proof.TopK

@[expose] public section

set_option maxRecDepth 16384

noncomputable section

namespace Cert.Proof

open Idealize.ShloMosaic Idealize.ShloMosaic.TcCoe Idealize.ShloMosaic.Tactic
open Cert.KernelIdeal.Gen Cert.KernelIdeal

/-! # The two output arrays when the region ends -/

variable (m : KMem)

/-- The index output's block is the whole array at each point. -/
theorem idx3 : ∀ t : Fin cfg0.N, win0_3.index t = ![0, 0] := (by decide +kernel : ∀ t : Fin grid0.N, _)
/-- The score output's block is the whole array at each point. -/
theorem idx4 : ∀ t : Fin cfg0.N, win0_4.index t = ![0, 0] := (by decide +kernel : ∀ t : Fin grid0.N, _)

/-- Each index of a one-column block is a slot in the only column. -/
theorem slot_eq (j : S832x1.Idx) : j = ix2 (j 0) 0 := by
  funext a
  fin_cases a
  · rfl
  · exact Fin.ext (by have := (j 1).isLt; show (j 1).val = 0; simpa using this)

/-- The index output after the region: each point's term, summed. -/
theorem index_array (c : Dev nD) :
    (dats m 0 c).arrAt 3 cfg0.N = (fun y : S832x1.Idx => ∑ s : Fin 20, indexTerm m c (s.cast N_0.symm) (y 0)) := by
  refine (dats m 0 c).arrAt_eq_of_covers 3 _ (by decide +kernel) fun t hf y => ?_
  have he : ((win0_3.blk t).view.emb y 0 : Fin 832) = y 0 := by
    apply Fin.ext
    blk_simp [idx3 t]
  have ht : t.val % 20 = 19 := (flush0_3 t).mp hf
  have hN : t.val < 20 := lt_of_lt_of_eq t.isLt N_0
  have h0 : t.val / 20 = 0 := by omega
  blk_simp
  rw [he, after0_3]
  have e := Pipeline.eq_sum_fin_of_reset_step_apply_of_flush (fun n h (p : Fin 832) => ((outsAt0 m c n h).1 (ix2 p 0) : EReal))
    20 (fun _ => 0) (indexTerm m c) (fun t h p => index_reset m c t h p) (fun t h p => index_step m c t h p) t ht (y 0)
  refine ((congrArg (outsAt0 m c t.val t.isLt).1 (slot_eq y)).trans e).trans ?_
  rw [zero_add]
  refine Finset.sum_congr rfl fun s _ => ?_
  congr 1
  apply Fin.ext
  show 20 * (t.val / 20) + s.val = s.val
  omega

/-- The score output after the region: each point's term, summed. -/
theorem score_array (c : Dev nD) :
    (dats m 0 c).arrAt 4 cfg0.N = (fun y : S832x1.Idx => ∑ s : Fin 20, scoreTerm m c (s.cast N_0.symm) (y 0)) := by
  refine (dats m 0 c).arrAt_eq_of_covers 4 _ (by decide +kernel) fun t hf y => ?_
  have he : ((win0_4.blk t).view.emb y 0 : Fin 832) = y 0 := by
    apply Fin.ext
    blk_simp [idx4 t]
  have ht : t.val % 20 = 19 := (flush0_4 t).mp hf
  have hN : t.val < 20 := lt_of_lt_of_eq t.isLt N_0
  have h0 : t.val / 20 = 0 := by omega
  blk_simp
  rw [he, after0_4]
  have e := Pipeline.eq_sum_fin_of_reset_step_apply_of_flush (fun n h (p : Fin 832) => ((outsAt0 m c n h).2.1 (ix2 p 0) : EReal))
    20 (fun _ => 0) (scoreTerm m c) (fun t h p => score_reset m c t h p) (fun t h p => score_step m c t h p) t ht (y 0)
  refine ((congrArg (outsAt0 m c t.val t.isLt).2.1 (slot_eq y)).trans e).trans ?_
  rw [zero_add]
  refine Finset.sum_congr rfl fun s _ => ?_
  congr 1
  apply Fin.ext
  show 20 * (t.val / 20) + s.val = s.val
  omega

/-- The total scores, when the region starts, as a function of the position. -/
def total (c : Dev nD) (q : Fin 20000) : EReal := V0 m c (Proc.devRef .tc main_v61) (ix1 q)

/-- The scores fit in the padded scores. -/
theorem le_pad : 20000 ≤ 20480 := by decide
/-- The results fit in the slots. -/
theorem le_slots : 819 ≤ 832 := by decide

/-- The position of the score in place `p` of the decreasing order. -/
def winner (c : Dev nD) (p : Fin 819) : Fin 20000 := place (total m c) p

/-- Among the columns that are not padding, only the winner of slot `p` meets it. -/
theorem meets_iff (c : Dev nD) (p : Fin 819) (j : Fin 20480) :
    (p.val = rankOf (padded m c) j ∧ j.val < 20000) ↔ j = Fin.castLE le_pad (winner m c p) := by
  have hr : ∀ q : Fin 20000, rankOf (padded m c) (Fin.castLE le_pad q) = rankOf (total m c) q := fun q =>
    rankOf_padded le_pad (total m c) (padded m c) (padded_low m c) (padded_high m c) q
  constructor
  · rintro ⟨h1, h2⟩
    have e : j = Fin.castLE le_pad (⟨j.val, h2⟩ : Fin 20000) := rfl
    rw [e, hr] at h1
    rw [e]
    refine congrArg (Fin.castLE le_pad) ?_
    have h3 := (rankOf_eq_iff (total m c) ⟨j.val, h2⟩ (Fin.castLE le_scores p)).mp (h1.symm.trans (Fin.val_castLE le_scores p).symm)
    rw [h3]; unfold winner place; with_reducible rfl
  · rintro rfl
    refine ⟨?_, by rw [Fin.val_castLE]; exact (winner m c p).isLt⟩
    rw [hr]
    have e := (rankOf_eq_iff (total m c) (winner m c p) (Fin.castLE le_scores p)).mpr (by unfold winner place; with_reducible rfl)
    rw [e, Fin.val_castLE]

/-- A sum over the chunks of a term that only the winner of slot `p` has is the winner's term. -/
theorem sum_winner (c : Dev nD) (p : Fin 819) (f : Fin 20480 → EReal) :
    (∑ s : Fin 20, ∑ l : Fin 1024,
      (if p.val = rankOf (padded m c) (spot s l) ∧ (spot s l).val < 20000 then f (spot s l) else 0))
      = f (Fin.castLE le_pad (winner m c p)) := by
  rw [Fin.sum_mul_add_congr (L := 20480) (f := fun j => if p.val = rankOf (padded m c) j ∧ j.val < 20000 then f j else 0)
    (fun s k hl => rfl)]
  refine (Finset.sum_congr rfl fun j _ => if_congr (meets_iff m c p j) rfl rfl).trans ?_
  exact (Finset.sum_ite_eq' Finset.univ (Fin.castLE le_pad (winner m c p)) f).trans (if_pos (Finset.mem_univ _))

/-- Slot `p` of the index output holds the number after the position of its winner. -/
theorem index_slot (c : Dev nD) (p : Fin 819) :
    (((dats m 0 c).arrAt 3 cfg0.N : S832x1.Idx → EReal) (ix2 (Fin.castLE le_slots p) 0) : EReal)
      = ((((winner m c p).val + 1 : ℕ) : ℝ) : EReal) := by
  rw [index_array]
  have e := sum_winner m c p (fun j => (((j.val + 1 : ℕ) : ℝ) : EReal))
  rw [Fin.val_castLE] at e
  exact e

/-- Slot `p` of the score output holds the score of its winner. -/
theorem score_slot (c : Dev nD) (p : Fin 819) :
    (((dats m 0 c).arrAt 4 cfg0.N : S832x1.Idx → EReal) (ix2 (Fin.castLE le_slots p) 0) : EReal)
      = total m c (winner m c p) := by
  rw [score_array]
  exact (sum_winner m c p (padded m c)).trans (padded_low m c (winner m c p))

end Cert.Proof
-- ==== Proof.Tail.lean ====
module

public import proofs.«01_k».proof.Proof.Args
public import Idealize.ShloMosaic.Lib.Pipeline.ValueKit

@[expose] public section

set_option maxRecDepth 16384

noncomputable section

namespace Cert.Proof

open Idealize.ShloMosaic Idealize.ShloMosaic.TcCoe Idealize.ShloMosaic.StableHlo Idealize.ShloMosaic.Tactic

/-! # The operations after the region

The kernel reads the first 819 slots of the two outputs, makes index words of one of them and takes the embeddings at those
words. The reference takes the embeddings at its own index words by the same operations, named `picked` here. -/

section
open Cert.ReferenceIdeal Cert.ReferenceIdeal.Gen Cert.ReferenceIdeal.Value

/-- The start positions of the take: a negative word counts from the end. -/
def starts (I : IVec S819 32) : IVec S819x1 32 :=
  broadcastInDim S819x1 ![0] bcast_S819_S819x1_0 (select (cmpi .slt I (broadcastInDim S819 ![] bcast_S_S819 (constantI S_ 32 0#32))) (addi I (broadcastInDim S819 ![] bcast_S_S819 (constantI S_ 32 20000#32))) I)

/-- The embeddings `E` at the start positions `W`, a fill where a position is out of range. -/
def pickedAt (E : FVec Ideal S1x20000x2324 .f32) (W : IVec S819x1 32) : FVec Ideal S819x2324 .f32 :=
  shapeCast _ (select (broadcastInDim S1x819x2324 ![1] bcast_S819_S1x819x2324_1 (Host.reduce IntOp.andi (andi (cmpi .sge W (broadcastInDim S819x1 ![] bcast_S_S819x1 (constantI S_ 32 0#32))) (cmpi .sle W (broadcastInDim S819x1 ![0, 1] bcast_S1x1_S819x1_0_1 (broadcastInDim S1x1 ![1] bcast_S1_S1x1_1 (constantI S1 32 19999#32))))) (constantI S_ 1 1#1) reducesTo_S819x1_S819_d1 h_S_)) (Host.gather gather_S1x20000x2324_S819x1_S1x819x2324_02_1_n_n_1_1_112324 E W) (broadcastInDim S1x819x2324 ![] bcast_S_S1x819x2324 (constant S_ .f32 0x7FC00000#32))) shapeCasts_S1x819x2324_S819x2324

/-- The embeddings `E` at the index words `I`. -/
def picked (E : FVec Ideal S1x20000x2324 .f32) (I : IVec S819 32) : FVec Ideal S819x2324 .f32 := pickedAt E (starts I)

/-- The reference's first result is the take of its embeddings at its index words. -/
theorem reference_picked (V' : RVal) :
    (shapeCast S819x2324 (select (broadcastInDim S1x819x2324 ![1] bcast_S819_S1x819x2324_1 (Host.reduce IntOp.andi (andi (cmpi .sge (res_main_call6_v5 V') (broadcastInDim S819x1 ![] bcast_S_S819x1 (constantI S_ 32 0#32))) (cmpi .sle (res_main_call6_v5 V') (broadcastInDim S819x1 ![0, 1] bcast_S1x1_S819x1_0_1 (broadcastInDim S1x1 ![1] bcast_S1_S1x1_1 (constantI S1 32 19999#32))))) (constantI S_ 1 1#1) reducesTo_S819x1_S819_d1 h_S_)) (Host.gather gather_S1x20000x2324_S819x1_S1x819x2324_02_1_n_n_1_1_112324 (res_main_v41 V') (res_main_call6_v5 V')) (broadcastInDim S1x819x2324 ![] bcast_S_S1x819x2324 (constant (F := Ideal) S_ .f32 0x7FC00000#32))) shapeCasts_S1x819x2324_S819x2324 : FVec Ideal S819x2324 .f32)
      = picked (res_main_v41 V') (res_main_indices V') := rfl
end

section
open Cert.KernelIdeal Cert.KernelIdeal.Gen

/-- The first 819 slots of an output. -/
def slots (a : FVec Ideal S832x1 .f32) : FVec Ideal S819 .f32 :=
  shapeCast S819 (extractStridedSlice S819x1 ![0, 0] a slices_S832x1_S819x1_0_0) shapeCasts_S819x1_S819

/-- The index words: the slots converted to words, less one. -/
def indexWords (a : FVec Ideal S832x1 .f32) : IVec S819 32 :=
  subi (fptosi 32 (slots a)) (broadcastInDim S819 ![] bcast_S_S819 (constantI S_ 32 1#32))

variable (W : Valuation τ sig (Elt Ideal))

/-- The operations after the region, in order. -/
abbrev tailOps : List (HloOp τ sig (Elt Ideal)) := List.flatten [hostOps1, hostOps1_1, hostOps1_2]

/-- The kernel's second result is the slots of the score output. -/
theorem tail_values : StableHlo.after tailOps W (Proc.devRef .tc main_v72) = slots (W (Proc.devRef .tc main_v70_1)) := by
  unfold tailOps
  simp (disch := decide) only [readAfter, readUpto, nullary_result', unary_result', binary_result', ternary_result', reshape_result']
  rfl

/-- The kernel's third result is the index words of the index output. -/
theorem tail_indices : StableHlo.after tailOps W (Proc.devRef .tc main_v77) = indexWords (W (Proc.devRef .tc main_v70_0)) := by
  unfold tailOps
  simp (disch := decide) only [readAfter, readUpto, nullary_result', unary_result', binary_result', ternary_result', reshape_result']
  rfl

set_option maxHeartbeats 4000000 in
/-- The kernel's first result is the take of the embeddings at the index words. -/
theorem tail_picked : StableHlo.after tailOps W (Proc.devRef .tc main_v79)
    = picked (W (Proc.devRef .tc main_v41)) (indexWords (W (Proc.devRef .tc main_v70_0))) := by
  unfold tailOps
  simp (disch := decide) only [readAfter, readUpto, nullary_result', unary_result', binary_result', ternary_result', reshape_result']
  generalize W (Proc.devRef .tc main_v41) = E
  generalize W (Proc.devRef .tc main_v70_0) = a
  sl_kernel_rfl

end

end Cert.Proof
-- ==== Proof.EntrySpan.lean ====
module

public import proofs.«01_k».proof.Proof.Args

@[expose] public section

set_option maxRecDepth 16384

noncomputable section

namespace Cert.Proof

open Idealize.ShloMosaic Idealize.ShloMosaic.TcCoe Idealize.ShloMosaic.StableHlo

set_option maxHeartbeats 8000000 in
/-- When the region starts, the kernel holds in its span embeddings what the reference computes for them: the two
    programs reach this array by the same operations on the same arguments. -/
theorem entry_span (m : KMem) (c : Dev Cert.KernelIdeal.nD) (V' : RVal) (h : SameArgs m c V') :
    Cert.KernelIdeal.Gen.V0 m c (Proc.devRef .tc Cert.KernelIdeal.main_v41) = Cert.ReferenceIdeal.Value.res_main_v41 V' := by
  obtain ⟨h0, h1, h2, h3, h4, h5, h6, h7, h8, h9, h10, h11, h12, h13, h14⟩ := h
  unfold Cert.KernelIdeal.Gen.V0
  simp (disch := decide) only [readAfter, readUpto, nullary_result', unary_result', binary_result', ternary_result', reshape_result', spanCat_result]
  have e : Cert.ReferenceIdeal.Value.res_main_v41 V' = spanCat _ _ _ _ := rfl
  rw [e]
  simp only [Cert.ReferenceIdeal.Value.res_main_v0, Cert.ReferenceIdeal.Value.res_main_call0_v5, Cert.ReferenceIdeal.Value.res_main_call1_v5, Cert.ReferenceIdeal.Value.res_main_v5, Cert.ReferenceIdeal.Value.res_main_call2_v5, Cert.ReferenceIdeal.Value.res_main_v13, Cert.ReferenceIdeal.Value.res_main_v27, Cert.ReferenceIdeal.Value.res_main_v34, h0, h1, h2, h3, h4, h5, h6, h7, h8, h9, h10, h11, h12, h13, h14]
  refine congr (congr (congr (congrArg spanCat ?_) ?_) ?_) ?_
  · sl_kernel_rfl
  · sl_kernel_rfl
  · sl_kernel_rfl
  · sl_kernel_rfl

end Cert.Proof
-- ==== Proof.EntryScore.lean ====
module

public import proofs.«01_k».proof.Proof.EntrySpan

@[expose] public section

set_option maxRecDepth 16384

noncomputable section

namespace Cert.Proof

open Idealize.ShloMosaic Idealize.ShloMosaic.TcCoe Idealize.ShloMosaic.StableHlo

set_option maxHeartbeats 8000000 in
/-- When the region starts, the kernel holds in its total scores what the reference computes for them: the two
    programs reach this array by the same operations on the same arguments. -/
theorem entry_score (m : KMem) (c : Dev Cert.KernelIdeal.nD) (V' : RVal) (h : SameArgs m c V') :
    Cert.KernelIdeal.Gen.V0 m c (Proc.devRef .tc Cert.KernelIdeal.main_v61) = Cert.ReferenceIdeal.Value.res_main_v61 V' := by
  have e := entry_span m c V' h
  obtain ⟨h0, h1, h2, h3, h4, h5, h6, h7, h8, h9, h10, h11, h12, h13, h14⟩ := h
  unfold Cert.KernelIdeal.Gen.V0 at e ⊢
  simp (disch := decide) only [readAfter] at e
  simp (disch := decide) only [readAfter, readUpto, nullary_result', unary_result', binary_result', ternary_result', reshape_result']
  rw [e]
  simp only [Cert.ReferenceIdeal.Value.res_main_v61, Cert.ReferenceIdeal.Value.res_main_call5_v5, Cert.ReferenceIdeal.Value.res_main_v5, h0, h1, h2, h3, h4, h5, h6, h7, h8, h9, h10, h11, h12, h13, h14]
  generalize Cert.ReferenceIdeal.Value.res_main_v41 V' = E
  sl_kernel_rfl

end Cert.Proof
-- ==== Proof.Equation.lean ====
module

public import proofs.«01_k».proof.Proof.Array
public import proofs.«01_k».proof.Proof.Tail
public import proofs.«01_k».proof.Proof.EntrySpan
public import proofs.«01_k».proof.Proof.EntryScore

@[expose] public section

set_option maxRecDepth 16384

noncomputable section

namespace Cert.Proof

open Idealize.ShloMosaic Idealize.ShloMosaic.TcCoe Idealize.ShloMosaic.Tactic
open Cert.KernelIdeal.Gen Cert.KernelIdeal
open Cert.ReferenceIdeal.Value (res_main_v41 res_main_v61 res_main_indices res_main_call6_v5)

/-! # The kernel's results are the reference's -/

variable (m : KMem)

/-- The memory the operations after the region start from. -/
def exit (c : Dev nD) : Valuation τ sig (Elt Ideal) :=
  Pipeline.withArrays (cfgs 0).spec c (V0 m c) fun w => (dats m 0 c).arrAt w (cfgs 0).N

/-- The first output buffer holds the index output. -/
theorem exit_index (c : Dev nD) : exit m c (Proc.devRef .tc main_v70_0) = (dats m 0 c).arrAt 3 cfg0.N :=
  Pipeline.withArrays_arr (cfgs 0).spec (by decide) c (V0 m c) _ 3

/-- The second output buffer holds the score output. -/
theorem exit_score (c : Dev nD) : exit m c (Proc.devRef .tc main_v70_1) = (dats m 0 c).arrAt 4 cfg0.N :=
  Pipeline.withArrays_arr (cfgs 0).spec (by decide) c (V0 m c) _ 4

/-- The embeddings are as they were when the region started. -/
theorem exit_span (c : Dev nD) : exit m c (Proc.devRef .tc main_v41) = V0 m c (Proc.devRef .tc main_v41) :=
  Pipeline.withArrays_of_ne _ c (V0 m c) _ main_v41 (by exact (by decide : ∀ w, Pipeline.arrRef spec0 w ≠ main_v41))

/-- Slot `p` of an output, read after the region. -/
theorem slots_apply (a : FVec Ideal S832x1 .f32) (p : Fin 819) : slots a (ix1 p) = a (ix2 (Fin.castLE le_slots p) 0) := by
  pointwise [slots]
  rfl

/-- A number under the words' range, converted to a word, is its word. -/
theorem number_word (n : ℕ) (hn : n < 2 ^ 31) : Ideal.fptosi 32 (((n : ℕ) : ℝ) : EReal) = BitVec.ofNat 32 n := by
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num at hn ⊢
    omega
  rw [e]
  exact BitVec.ofInt_natCast 32 n

/-- Index word `p` is the word of the winner's position. -/
theorem indexWords_apply (c : Dev nD) (p : Fin 819) :
    indexWords ((dats m 0 c).arrAt 3 cfg0.N) (ix1 p) = BitVec.ofNat 32 (winner m c p).val := by
  have hw := (winner m c p).isLt
  have e : Ideal.fptosi 32 (slots ((dats m 0 c).arrAt 3 cfg0.N) (ix1 p)) = BitVec.ofNat 32 ((winner m c p).val + 1) := by
    rw [slots_apply]
    exact (congrArg (Ideal.fptosi 32) (index_slot m c p)).trans (number_word _ (by omega))
  show Ideal.fptosi 32 (slots ((dats m 0 c).arrAt 3 cfg0.N) (ix1 p)) - 1#32 = _
  rw [e, BitVec.ofNat_add]
  exact BitVec.add_sub_cancel _ _

/-- An index of a vector of 819 is a position. -/
theorem position_eq (j : S819.Idx) : ∃ p : Fin 819, j = ix1 p := by
  refine ⟨j 0, ?_⟩
  funext a
  fin_cases a
  rfl

variable (c : Dev nD) (V' : RVal) (h : SameArgs m c V')
include h

/-- The total scores are the reference's. -/
theorem total_eq : total m c = fun q => (res_main_v61 V' (ix1 q) : EReal) :=
  funext fun q => congrFun (entry_score m c V' h) (ix1 q)

/-- The kernel's index words are the reference's. -/
theorem indices_eq : indexWords ((dats m 0 c).arrAt 3 cfg0.N) = res_main_indices V' := by
  funext j
  obtain ⟨p, rfl⟩ := position_eq j
  rw [indexWords_apply]
  refine Eq.trans ?_ (topK_index (res_main_v61 V') p).symm
  unfold winner
  rw [total_eq m c V' h]

/-- The kernel's values are the reference's. -/
theorem values_eq : slots ((dats m 0 c).arrAt 4 cfg0.N)
    = (Host.topK Cert.ReferenceIdeal.S819 0 (FloatOps.cmpfTotal (F := Ideal) (φ := .f32) .gt) (res_main_v61 V') Cert.ReferenceIdeal.Gen.sliceFits_S20000_S819).1 := by
  funext j
  obtain ⟨p, rfl⟩ := position_eq j
  refine Eq.trans ?_ (topK_value (res_main_v61 V') p).symm
  rw [slots_apply]
  refine (score_slot m c p).trans ?_
  unfold winner
  rw [total_eq m c V' h]

/-- After the kernel, its second result is the reference's values. -/
theorem result_values : Pipeline.afterTail₀ cfgs (dats m) 0 (V0 m) [hostOps1, hostOps1_1, hostOps1_2] c main_v72
    = (Host.topK Cert.ReferenceIdeal.S819 0 (FloatOps.cmpfTotal (F := Ideal) (φ := .f32) .gt) (res_main_v61 V') Cert.ReferenceIdeal.Gen.sliceFits_S20000_S819).1 :=
  (tail_values (exit m c)).trans ((congrArg slots (exit_score m c)).trans (values_eq m c V' h))

/-- After the kernel, its third result is the reference's indices. -/
theorem result_indices : Pipeline.afterTail₀ cfgs (dats m) 0 (V0 m) [hostOps1, hostOps1_1, hostOps1_2] c main_v77
    = res_main_indices V' :=
  (tail_indices (exit m c)).trans ((congrArg indexWords (exit_index m c)).trans (indices_eq m c V' h))

/-- After the kernel, its first result is the reference's take. -/
theorem result_picked : Pipeline.afterTail₀ cfgs (dats m) 0 (V0 m) [hostOps1, hostOps1_1, hostOps1_2] c main_v79
    = picked (res_main_v41 V') (res_main_indices V') :=
  (tail_picked (exit m c)).trans (congr (congrArg picked ((exit_span m c).trans (entry_span m c V' h)))
    ((congrArg indexWords (exit_index m c)).trans (indices_eq m c V' h)))

end Cert.Proof
-- ==== Proof.lean ====
/- The certificate: the frames of the three programs, `preserves`, and the equality over the extended reals of the kernel's
   three results with the reference's. The mathematics is in the modules under Proof/:
   Args (the arguments that the two programs share), EntrySpan, EntryScore and EntryPad (what the region reads), Rank
   (counting what comes before), Block (one column, one slot), Point (one grid point), Array (the outputs at the end),
   TopK (the reference's selection), Tail (the operations after the region) and Equation (the results agree). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference's buffers as its run finds them on core `c` hold the kernel's arguments, when the two memories agree. -/
theorem sameArgs (m : KMem) (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    SameArgs m c (StableHlo.launchContents m' c) := by
  obtain ⟨h0, h1, h2, h3, h4, h5, h6, h7, h8, h9, h10, h11, h12, h13, h14⟩ := h
  exact ⟨h0, h1, h2, h3, h4, h5, h6, h7, h8, h9, h10, h11, h12, h13, h14⟩

/-- The reference terminates, leaves its arguments unchanged and has no counter to leave nonzero. -/
theorem frame_reference : Cert.quiescent_ReferenceIdeal := by
  intro m g _
  exact (θ_run Cert.ReferenceIdeal.defs _ _).mono (fun r h => ⟨fun c => (h c).2.2.2,
    Idealize.ShloMosaic.sem_eq_zero_of_no_sems (by decide) r.2⟩) (Cert.ReferenceIdeal.Value.run (F := Ideal) m g)

/-- The run of the ideal kernel: each result ends as the reference's term of `V'`, which holds the same arguments, and the
arguments are unchanged. -/
theorem run_kernel (m : KMem) (g : Dev Cert.KernelIdeal.nD → PrngReg) (V' : Dev Cert.KernelIdeal.nD → RVal)
    (h : ∀ c, SameArgs m c (V' c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v79) = picked (Cert.ReferenceIdeal.Value.res_main_v41 (V' c)) (Cert.ReferenceIdeal.Value.res_main_indices (V' c))
      ∧ r.2.mem ((c.tc : Thread Cert.KernelIdeal.nD Cert.KernelIdeal.τ).loc Cert.KernelIdeal.main_v72) = (Host.topK Cert.ReferenceIdeal.S819 0 (FloatOps.cmpfTotal (F := Ideal) (φ := .f32) .gt) (Cert.ReferenceIdeal.Value.res_main_v61 (V' c)) Cert.ReferenceIdeal.Gen.sliceFits_S20000_S819).1
      ∧ r.2.mem ((c.tc : Thread Cert.KernelIdeal.nD Cert.KernelIdeal.τ).loc Cert.KernelIdeal.main_v77) = Cert.ReferenceIdeal.Value.res_main_indices (V' c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono (fun r hr c =>
    ⟨((hr.1 c).2 Cert.KernelIdeal.main_v79 (by decide)).trans (result_picked m c (V' c) (h c)),
      ((hr.1 c).2 Cert.KernelIdeal.main_v72 (by decide)).trans (result_values m c (V' c) (h c)),
      ((hr.1 c).2 Cert.KernelIdeal.main_v77 (by decide)).trans (result_indices m c (V' c) (h c)),
      hr.2.1 c⟩)
    (θ_run_and (Cert.KernelIdeal.Gen.run_main (F := Ideal) m g) (Cert.KernelIdeal.Gen.frame (F := Ideal) m g))

/-- The ideal kernel and the reference end with the same three results, from any memories that agree on the arguments. -/
theorem algebraic : Cert.algebraic_KernelIdeal_ReferenceIdeal := by
  intro m g m' g' _ hagree
  refine ⟨_, _, _, run_kernel m g (fun c => StableHlo.launchContents m' c) (fun c => sameArgs m m' c (hagree c)), ?_⟩
  exact (θ_run Cert.ReferenceIdeal.defs _ _).mono (fun r h c =>
    ⟨(h c).1.trans (reference_picked (StableHlo.launchContents m' c)), (h c).2⟩)
    (Cert.ReferenceIdeal.Value.run (F := Ideal) m' g')

/-- Every claim of the certificate: the three frames, `preserves`, and the equality of the results. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, frame_reference, trivial, algebraic⟩

end Cert.Proof

end
